-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 512]⟩ ⟨2, ![512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x64 : Shape := ⟨2, ![256, 64]⟩
abbrev S512x1 : Shape := ⟨2, ![512, 1]⟩
abbrev S4x256x512 : Shape := ⟨3, ![4, 256, 512]⟩
abbrev S32x512 : Shape := ⟨2, ![32, 512]⟩
abbrev S24x512 : Shape := ⟨2, ![24, 512]⟩
abbrev S384x512 : Shape := ⟨2, ![384, 512]⟩
abbrev S15 : Shape := ⟨1, ![15]⟩
abbrev S_ : Shape := ⟨0, ![]⟩
abbrev S512x64 : Shape := ⟨2, ![512, 64]⟩
abbrev S512x512 : Shape := ⟨2, ![512, 512]⟩
abbrev S512 : Shape := ⟨1, ![512]⟩
abbrev S1x32 : Shape := ⟨2, ![1, 32]⟩
abbrev S512x32 : Shape := ⟨2, ![512, 32]⟩
abbrev S32x256 : Shape := ⟨2, ![32, 256]⟩
abbrev S8x256 : Shape := ⟨2, ![8, 256]⟩
abbrev S1x256x512 : Shape := ⟨3, ![1, 256, 512]⟩
abbrev S256x512 : Shape := ⟨2, ![256, 512]⟩
abbrev S8x512 : Shape := ⟨2, ![8, 512]⟩
abbrev S24x32 : Shape := ⟨2, ![24, 32]⟩
abbrev S1 : Shape := ⟨1, ![1]⟩
abbrev S32x1 : Shape := ⟨2, ![32, 1]⟩
abbrev S32x384 : Shape := ⟨2, ![32, 384]⟩

abbrev nBuf : Space → Nat
  | .hbm => 5
  | .vmem => 9
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S4x256x512, .bf16⟩
  | .hbm, ⟨4, _⟩ => ⟨S32x512, .f32⟩
  | .local _ .vmem, ⟨0, _⟩ => ⟨S512x256, .bf16⟩
  | .local _ .vmem, ⟨1, _⟩ => ⟨S256x64, .bf16⟩
  | .local _ .vmem, ⟨2, _⟩ => ⟨S512x1, .i32⟩
  | .local _ .vmem, ⟨3, _⟩ => ⟨S4x256x512, .bf16⟩
  | .local _ .vmem, ⟨4, _⟩ => ⟨S32x512, .f32⟩
  | .local _ .vmem, ⟨5, _⟩ => ⟨S32x512, .bf16⟩
  | .local _ .vmem, ⟨6, _⟩ => ⟨S24x512, .bf16⟩
  | .local _ .vmem, ⟨7, _⟩ => ⟨S384x512, .bf16⟩
  | .local _ .vmem, ⟨8, _⟩ => ⟨S512x1, .i32⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_mult1 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c24_i32 : BitVec 32 := 24#32
  let v234 : BitVec 32 := Scalar.muli v2 c24_i32
  v234
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c24_i32 : BitVec 32 := 24#32
  let v234 : BitVec 32 := Scalar.muli v2 c24_i32
  let v235 : BitVec 32 := v234
  let c0_i32_119 : BitVec 32 := 0#32
  ![v235.toNat, 0]
def k0_dev16 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_121 : BitVec 32 := 1#32
  let v237 : BitVec 32 := Scalar.addi v2 c1_i32_121
  let c16_i32_122 : BitVec 32 := 16#32
  let v238 : BitVec 32 := Scalar.remsi v237 c16_i32_122
  let c1_i32_125 : BitVec 32 := 1#32
  let v239 : BitVec 32 := Scalar.muli v238 c1_i32_125
  let v240 : BitVec 32 := Scalar.addi c0_i32_126 v239
  v240.toNat
def k0_dev17 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_130 : BitVec 32 := 2#32
  let v247 : BitVec 32 := Scalar.addi v2 c2_i32_130
  let c16_i32_131 : BitVec 32 := 16#32
  let v248 : BitVec 32 := Scalar.remsi v247 c16_i32_131
  let c1_i32_134 : BitVec 32 := 1#32
  let v249 : BitVec 32 := Scalar.muli v248 c1_i32_134
  let v250 : BitVec 32 := Scalar.addi c0_i32_135 v249
  v250.toNat
def k0_dev18 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_139 : BitVec 32 := 3#32
  let v257 : BitVec 32 := Scalar.addi v2 c3_i32_139
  let c16_i32_140 : BitVec 32 := 16#32
  let v258 : BitVec 32 := Scalar.remsi v257 c16_i32_140
  let c1_i32_143 : BitVec 32 := 1#32
  let v259 : BitVec 32 := Scalar.muli v258 c1_i32_143
  let v260 : BitVec 32 := Scalar.addi c0_i32_144 v259
  v260.toNat
def k0_dev19 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_148 : BitVec 32 := 4#32
  let v267 : BitVec 32 := Scalar.addi v2 c4_i32_148
  let c16_i32_149 : BitVec 32 := 16#32
  let v268 : BitVec 32 := Scalar.remsi v267 c16_i32_149
  let c1_i32_152 : BitVec 32 := 1#32
  let v269 : BitVec 32 := Scalar.muli v268 c1_i32_152
  let v270 : BitVec 32 := Scalar.addi c0_i32_153 v269
  v270.toNat
def k0_dev20 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_157 : BitVec 32 := 5#32
  let v277 : BitVec 32 := Scalar.addi v2 c5_i32_157
  let c16_i32_158 : BitVec 32 := 16#32
  let v278 : BitVec 32 := Scalar.remsi v277 c16_i32_158
  let c1_i32_161 : BitVec 32 := 1#32
  let v279 : BitVec 32 := Scalar.muli v278 c1_i32_161
  let v280 : BitVec 32 := Scalar.addi c0_i32_162 v279
  v280.toNat
def k0_dev21 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_166 : BitVec 32 := 6#32
  let v287 : BitVec 32 := Scalar.addi v2 c6_i32_166
  let c16_i32_167 : BitVec 32 := 16#32
  let v288 : BitVec 32 := Scalar.remsi v287 c16_i32_167
  let c1_i32_170 : BitVec 32 := 1#32
  let v289 : BitVec 32 := Scalar.muli v288 c1_i32_170
  let v290 : BitVec 32 := Scalar.addi c0_i32_171 v289
  v290.toNat
def k0_dev22 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_175 : BitVec 32 := 7#32
  let v297 : BitVec 32 := Scalar.addi v2 c7_i32_175
  let c16_i32_176 : BitVec 32 := 16#32
  let v298 : BitVec 32 := Scalar.remsi v297 c16_i32_176
  let c1_i32_179 : BitVec 32 := 1#32
  let v299 : BitVec 32 := Scalar.muli v298 c1_i32_179
  let v300 : BitVec 32 := Scalar.addi c0_i32_180 v299
  v300.toNat
def k0_dev23 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_184 : BitVec 32 := 8#32
  let v307 : BitVec 32 := Scalar.addi v2 c8_i32_184
  let c16_i32_185 : BitVec 32 := 16#32
  let v308 : BitVec 32 := Scalar.remsi v307 c16_i32_185
  let c1_i32_188 : BitVec 32 := 1#32
  let v309 : BitVec 32 := Scalar.muli v308 c1_i32_188
  let v310 : BitVec 32 := Scalar.addi c0_i32_189 v309
  v310.toNat
def k0_dev24 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_193 : BitVec 32 := 9#32
  let v317 : BitVec 32 := Scalar.addi v2 c9_i32_193
  let c16_i32_194 : BitVec 32 := 16#32
  let v318 : BitVec 32 := Scalar.remsi v317 c16_i32_194
  let c1_i32_197 : BitVec 32 := 1#32
  let v319 : BitVec 32 := Scalar.muli v318 c1_i32_197
  let v320 : BitVec 32 := Scalar.addi c0_i32_198 v319
  v320.toNat
def k0_dev25 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_202 : BitVec 32 := 10#32
  let v327 : BitVec 32 := Scalar.addi v2 c10_i32_202
  let c16_i32_203 : BitVec 32 := 16#32
  let v328 : BitVec 32 := Scalar.remsi v327 c16_i32_203
  let c1_i32_206 : BitVec 32 := 1#32
  let v329 : BitVec 32 := Scalar.muli v328 c1_i32_206
  let v330 : BitVec 32 := Scalar.addi c0_i32_207 v329
  v330.toNat
def k0_dev26 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_211 : BitVec 32 := 11#32
  let v337 : BitVec 32 := Scalar.addi v2 c11_i32_211
  let c16_i32_212 : BitVec 32 := 16#32
  let v338 : BitVec 32 := Scalar.remsi v337 c16_i32_212
  let c1_i32_215 : BitVec 32 := 1#32
  let v339 : BitVec 32 := Scalar.muli v338 c1_i32_215
  let v340 : BitVec 32 := Scalar.addi c0_i32_216 v339
  v340.toNat
def k0_dev27 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_220 : BitVec 32 := 12#32
  let v347 : BitVec 32 := Scalar.addi v2 c12_i32_220
  let c16_i32_221 : BitVec 32 := 16#32
  let v348 : BitVec 32 := Scalar.remsi v347 c16_i32_221
  let c1_i32_224 : BitVec 32 := 1#32
  let v349 : BitVec 32 := Scalar.muli v348 c1_i32_224
  let v350 : BitVec 32 := Scalar.addi c0_i32_225 v349
  v350.toNat
def k0_dev28 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_229 : BitVec 32 := 13#32
  let v357 : BitVec 32 := Scalar.addi v2 c13_i32_229
  let c16_i32_230 : BitVec 32 := 16#32
  let v358 : BitVec 32 := Scalar.remsi v357 c16_i32_230
  let c1_i32_233 : BitVec 32 := 1#32
  let v359 : BitVec 32 := Scalar.muli v358 c1_i32_233
  let v360 : BitVec 32 := Scalar.addi c0_i32_234 v359
  v360.toNat
def k0_dev29 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_238 : BitVec 32 := 14#32
  let v367 : BitVec 32 := Scalar.addi v2 c14_i32_238
  let c16_i32_239 : BitVec 32 := 16#32
  let v368 : BitVec 32 := Scalar.remsi v367 c16_i32_239
  let c1_i32_242 : BitVec 32 := 1#32
  let v369 : BitVec 32 := Scalar.muli v368 c1_i32_242
  let v370 : BitVec 32 := Scalar.addi c0_i32_243 v369
  v370.toNat
def k0_dev30 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_247 : BitVec 32 := 15#32
  let v377 : BitVec 32 := Scalar.addi v2 c15_i32_247
  let c16_i32_248 : BitVec 32 := 16#32
  let v378 : BitVec 32 := Scalar.remsi v377 c16_i32_248
  let c1_i32_251 : BitVec 32 := 1#32
  let v379 : BitVec 32 := Scalar.muli v378 c1_i32_251
  let v380 : BitVec 32 := Scalar.addi c0_i32_252 v379
  v380.toNat
def k0_mult2 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v387 : BitVec 32 := Scalar.muli v2 c32_i32
  v387
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v387 : BitVec 32 := Scalar.muli v2 c32_i32
  let v388 : BitVec 32 := v387
  let v389 : Index := Scalar.indexCast v388
  let c0_256 : Index := 0#32
  ![v389.toNat, 0]
def k0_mult3 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_272 : BitVec 32 := 15#32
  let v444 : BitVec 32 := Scalar.addi v2 c15_i32_272
  let c16_i32_273 : BitVec 32 := 16#32
  let v445 : BitVec 32 := Scalar.remsi v444 c16_i32_273
  let c24_i32_274 : BitVec 32 := 24#32
  let v446 : BitVec 32 := Scalar.muli v445 c24_i32_274
  v446
def k0_off3 (d0 : Dev nD) (c15_i32_272 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v444 : BitVec 32 := Scalar.addi v2 c15_i32_272
  let c16_i32_273 : BitVec 32 := 16#32
  let v445 : BitVec 32 := Scalar.remsi v444 c16_i32_273
  let c24_i32_274 : BitVec 32 := 24#32
  let v446 : BitVec 32 := Scalar.muli v445 c24_i32_274
  let v447 : BitVec 32 := v446
  let c0_i32_279 : BitVec 32 := 0#32
  ![v447.toNat, 0]
def k0_mult4 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_282 : BitVec 32 := 14#32
  let v454 : BitVec 32 := Scalar.addi v2 c14_i32_282
  let c16_i32_283 : BitVec 32 := 16#32
  let v455 : BitVec 32 := Scalar.remsi v454 c16_i32_283
  let c24_i32_284 : BitVec 32 := 24#32
  let v456 : BitVec 32 := Scalar.muli v455 c24_i32_284
  v456
def k0_mult5 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_292 : BitVec 32 := 13#32
  let v464 : BitVec 32 := Scalar.addi v2 c13_i32_292
  let c16_i32_293 : BitVec 32 := 16#32
  let v465 : BitVec 32 := Scalar.remsi v464 c16_i32_293
  let c24_i32_294 : BitVec 32 := 24#32
  let v466 : BitVec 32 := Scalar.muli v465 c24_i32_294
  v466
def k0_mult6 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_302 : BitVec 32 := 12#32
  let v474 : BitVec 32 := Scalar.addi v2 c12_i32_302
  let c16_i32_303 : BitVec 32 := 16#32
  let v475 : BitVec 32 := Scalar.remsi v474 c16_i32_303
  let c24_i32_304 : BitVec 32 := 24#32
  let v476 : BitVec 32 := Scalar.muli v475 c24_i32_304
  v476
def k0_mult7 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_312 : BitVec 32 := 11#32
  let v484 : BitVec 32 := Scalar.addi v2 c11_i32_312
  let c16_i32_313 : BitVec 32 := 16#32
  let v485 : BitVec 32 := Scalar.remsi v484 c16_i32_313
  let c24_i32_314 : BitVec 32 := 24#32
  let v486 : BitVec 32 := Scalar.muli v485 c24_i32_314
  v486
def k0_mult8 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_322 : BitVec 32 := 10#32
  let v494 : BitVec 32 := Scalar.addi v2 c10_i32_322
  let c16_i32_323 : BitVec 32 := 16#32
  let v495 : BitVec 32 := Scalar.remsi v494 c16_i32_323
  let c24_i32_324 : BitVec 32 := 24#32
  let v496 : BitVec 32 := Scalar.muli v495 c24_i32_324
  v496
def k0_mult9 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_332 : BitVec 32 := 9#32
  let v504 : BitVec 32 := Scalar.addi v2 c9_i32_332
  let c16_i32_333 : BitVec 32 := 16#32
  let v505 : BitVec 32 := Scalar.remsi v504 c16_i32_333
  let c24_i32_334 : BitVec 32 := 24#32
  let v506 : BitVec 32 := Scalar.muli v505 c24_i32_334
  v506
def k0_mult10 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_342 : BitVec 32 := 8#32
  let v514 : BitVec 32 := Scalar.addi v2 c8_i32_342
  let c16_i32_343 : BitVec 32 := 16#32
  let v515 : BitVec 32 := Scalar.remsi v514 c16_i32_343
  let c24_i32_344 : BitVec 32 := 24#32
  let v516 : BitVec 32 := Scalar.muli v515 c24_i32_344
  v516
def k0_mult11 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_352 : BitVec 32 := 7#32
  let v524 : BitVec 32 := Scalar.addi v2 c7_i32_352
  let c16_i32_353 : BitVec 32 := 16#32
  let v525 : BitVec 32 := Scalar.remsi v524 c16_i32_353
  let c24_i32_354 : BitVec 32 := 24#32
  let v526 : BitVec 32 := Scalar.muli v525 c24_i32_354
  v526
def k0_mult12 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_362 : BitVec 32 := 6#32
  let v534 : BitVec 32 := Scalar.addi v2 c6_i32_362
  let c16_i32_363 : BitVec 32 := 16#32
  let v535 : BitVec 32 := Scalar.remsi v534 c16_i32_363
  let c24_i32_364 : BitVec 32 := 24#32
  let v536 : BitVec 32 := Scalar.muli v535 c24_i32_364
  v536
def k0_mult13 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_372 : BitVec 32 := 5#32
  let v544 : BitVec 32 := Scalar.addi v2 c5_i32_372
  let c16_i32_373 : BitVec 32 := 16#32
  let v545 : BitVec 32 := Scalar.remsi v544 c16_i32_373
  let c24_i32_374 : BitVec 32 := 24#32
  let v546 : BitVec 32 := Scalar.muli v545 c24_i32_374
  v546
def k0_mult14 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_382 : BitVec 32 := 4#32
  let v554 : BitVec 32 := Scalar.addi v2 c4_i32_382
  let c16_i32_383 : BitVec 32 := 16#32
  let v555 : BitVec 32 := Scalar.remsi v554 c16_i32_383
  let c24_i32_384 : BitVec 32 := 24#32
  let v556 : BitVec 32 := Scalar.muli v555 c24_i32_384
  v556
def k0_mult15 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_392 : BitVec 32 := 3#32
  let v564 : BitVec 32 := Scalar.addi v2 c3_i32_392
  let c16_i32_393 : BitVec 32 := 16#32
  let v565 : BitVec 32 := Scalar.remsi v564 c16_i32_393
  let c24_i32_394 : BitVec 32 := 24#32
  let v566 : BitVec 32 := Scalar.muli v565 c24_i32_394
  v566
def k0_mult16 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_402 : BitVec 32 := 2#32
  let v574 : BitVec 32 := Scalar.addi v2 c2_i32_402
  let c16_i32_403 : BitVec 32 := 16#32
  let v575 : BitVec 32 := Scalar.remsi v574 c16_i32_403
  let c24_i32_404 : BitVec 32 := 24#32
  let v576 : BitVec 32 := Scalar.muli v575 c24_i32_404
  v576
def k0_mult17 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_412 : BitVec 32 := 1#32
  let v584 : BitVec 32 := Scalar.addi v2 c1_i32_412
  let c16_i32_413 : BitVec 32 := 16#32
  let v585 : BitVec 32 := Scalar.remsi v584 c16_i32_413
  let c24_i32_414 : BitVec 32 := 24#32
  let v586 : BitVec 32 := Scalar.muli v585 c24_i32_414
  v586
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S64 : Shape := ⟨1, ![64]⟩
abbrev S1x64 : Shape := ⟨2, ![1, 64]⟩
abbrev S512x64 : Shape := ⟨2, ![512, 64]⟩
abbrev S_ : Shape := ⟨0, ![]⟩
abbrev S512x64x512 : Shape := ⟨3, ![512, 64, 512]⟩
abbrev S512x64x1 : Shape := ⟨3, ![512, 64, 1]⟩
abbrev S512x512 : Shape := ⟨2, ![512, 512]⟩

abbrev nBuf : Space → Nat
  | .hbm => 29
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S64x256x512, .bf16⟩
  | .hbm, ⟨4, _⟩ => ⟨S64, .i32⟩
  | .hbm, ⟨5, _⟩ => ⟨S1x64, .i32⟩
  | .hbm, ⟨6, _⟩ => ⟨S512x64, .i32⟩
  | .hbm, ⟨7, _⟩ => ⟨S512x64, .i32⟩
  | .hbm, ⟨8, _⟩ => ⟨S512x64, .i1⟩
  | .hbm, ⟨9, _⟩ => ⟨S512x64, .i32⟩
  | .hbm, ⟨10, _⟩ => ⟨S_, .i32⟩
  | .hbm, ⟨11, _⟩ => ⟨S_, .i32⟩
  | .hbm, ⟨12, _⟩ => ⟨S512x64, .i32⟩
  | .hbm, ⟨13, _⟩ => ⟨S512x64, .i32⟩
  | .hbm, ⟨14, _⟩ => ⟨S_, .i32⟩
  | .hbm, ⟨15, _⟩ => ⟨S512x64, .i32⟩
  | .hbm, ⟨16, _⟩ => ⟨S512x64, .i1⟩
  | .hbm, ⟨17, _⟩ => ⟨S512x64, .i1⟩
  | .hbm, ⟨18, _⟩ => ⟨S512x256, .f32⟩
  | .hbm, ⟨19, _⟩ => ⟨S64x256x512, .f32⟩
  | .hbm, ⟨20, _⟩ => ⟨S512x64x512, .f32⟩
  | .hbm, ⟨21, _⟩ => ⟨S512x64x1, .i1⟩
  | .hbm, ⟨22, _⟩ => ⟨S_, .f32⟩
  | .hbm, ⟨23, _⟩ => ⟨S_, .f32⟩
  | .hbm, ⟨24, _⟩ => ⟨S512x64x512, .i1⟩
  | .hbm, ⟨25, _⟩ => ⟨S512x64x512, .f32⟩
  | .hbm, ⟨26, _⟩ => ⟨S512x64x512, .f32⟩
  | .hbm, ⟨27, _⟩ => ⟨S_, .f32⟩
  | .hbm, ⟨28, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Proof.Contents.lean ====
/-
# What the buffers of one device hold

Each definition names the contents one buffer of the kernel has after its last store, as a function of the device's
inputs. Nothing here speaks of memory: these are functions of arrays, for any float values.
-/
module

public import proofs.«01_k».proof.Proof.Gen.KernelIdeal
public import proofs.«01_k».proof.Proof.Gen.KernelIdeal.Skeleton
public import Idealize.ShloMosaic.Lib.ValueIdx

@[expose] public section

set_option backward.proofsInPublic true

noncomputable section

namespace Cert.MoeProof

open Cert.KernelIdeal Cert.KernelIdeal.Gen
open Idealize.ShloMosaic
open Idealize.ShloMosaic.ValueIdx

variable {F : FTy → Type} [FloatOps F]

/-- The device's position along the mesh axis, as the kernel computes it from the device number. -/
abbrev posW (c : Dev nD) : BitVec 32 := Scalar.remsi (Scalar.divsi (Dev.word c) 1#32) 16#32

/-- The divisor eight of the slot number, behind the program's own guard against zero. -/
abbrev eightW : BitVec 32 := Scalar.select (Scalar.cmpi .eq 8#32 0#32) 1#32 8#32

/-- Every token's rank among the tokens routed to the same expert. -/
def rankV (r : Vec F S512x1 .i32) : Vec F S512x1 .i32 := k0_pay3 (k0_pay2 (F := F) r)

/-- The rows gathered for the device's four experts: row `8 e + s` is the token in slot `s` of local expert `e`. -/
def gatherV (c : Dev nD) (r : Vec F S512x1 .i32) (x : Vec F S512x256 .bf16) : FVec F S32x256 .bf16 :=
  k0_pay7 (k0_pay1 (F := F) r) (k0_pay2 (F := F) r) (k0_pay4 (posW c)) eightW k0_pay5 k0_pay6 x

/-- Local expert `e`'s weights, as the kernel loads them. -/
def slabV (W : Vec F S4x256x512 .bf16) (e : Fin 4) : Vec F S1x256x512 .bf16 := fun i => W (ix3 e (i 1) (i 2))

/-- The products of the gathered rows with the four local experts' weights, eight rows each. -/
def blockV (c : Dev nD) (r : Vec F S512x1 .i32) (x : Vec F S512x256 .bf16) (W : Vec F S4x256x512 .bf16) :
    Fin 4 → Vec F S8x512 .bf16
  | 0 => k0_pay8 (k0_pay1 (F := F) r) (k0_pay2 (F := F) r) (k0_pay4 (posW c)) eightW k0_pay5 k0_pay6 x (slabV W 0)
  | 1 => k0_pay9 (k0_pay1 (F := F) r) (k0_pay2 (F := F) r) (k0_pay4 (posW c)) eightW k0_pay5 k0_pay6 x (slabV W 1)
  | 2 => k0_pay11 (k0_pay10 (k0_pay1 (F := F) r) (k0_pay2 (F := F) r) (k0_pay4 (posW c)) eightW k0_pay5 k0_pay6 x) (slabV W 2)
  | 3 => k0_pay12 (gatherV c r x) (slabV W 3)

/-- Four blocks of eight rows, one under the other. -/
def stack (p : Fin 4 → Vec F S8x512 .bf16) : Vec F S32x512 .bf16 := fun i =>
  p ⟨(i 0).val / 8, Nat.div_lt_of_lt_mul (i 0).isLt⟩ (ix2 ⟨(i 0).val % 8, Nat.mod_lt _ (by decide)⟩ (i 1))

/-- The staging buffer: the four experts' rows. -/
def stageV (c : Dev nD) (r : Vec F S512x1 .i32) (x : Vec F S512x256 .bf16) (W : Vec F S4x256x512 .bf16) : Vec F S32x512 .bf16 :=
  stack (blockV c r x W)

/-- The packed buffer: the six live rows of each expert. -/
def packV (c : Dev nD) (r : Vec F S512x1 .i32) (x : Vec F S512x256 .bf16) (W : Vec F S4x256x512 .bf16) : Vec F S24x512 .bf16 :=
  k0_pay15 (iota .tc S24x32 32 [0] iota_S24x32_d0_w32) (iota .tc S24x32 32 [1] iota_S24x32_d1_w32) k0_pay13 k0_pay14
    (stageV c r x W)

/-- The receive buffer once every device's packed rows are in it: rows `24 d` to `24 d + 24` are device `d`'s. -/
def gathered (pk : Dev nD → Vec F S24x512 .bf16) : Vec F S384x512 .bf16 := fun i =>
  pk ⟨(i 0).val / 24, Nat.div_lt_of_lt_mul (i 0).isLt⟩ (ix2 ⟨(i 0).val % 24, Nat.mod_lt _ (by decide)⟩ (i 1))

/-- The rows of the device's own thirty-two tokens. -/
def ownRows (c : Dev nD) (v : Vec F S512x1 .i32) : Vec F S32x1 .i32 := fun i =>
  v (ix2 ⟨32 * c.val + (i 0).val, by have h := c.isLt; have h' : (i 0).val < 32 := (i 0).isLt; change c.val < 16 at h; omega⟩ (i 1))

/-- The selection matrix: own token `t` takes the row of its expert and rank. -/
def selV (c : Dev nD) (r : Vec F S512x1 .i32) : FVec F S32x384 .bf16 :=
  k0_pay18 (k0_pay17 (F := F) (ownRows (F := F) c (rankV (F := F) r)) (k0_pay16 (F := F) (ownRows (F := F) c r))
    (iota .tc S32x384 32 [1] iota_S32x384_d1_w32))

/-- The kernel's result on a device, from its routing and the receive buffer. -/
def outV (c : Dev nD) (r : Vec F S512x1 .i32) (g : Vec F S384x512 .bf16) : Vec F S32x512 .f32 := k0_pay19 (selV c r) g

end Cert.MoeProof

end
-- ==== Proof.Protocol.lean ====
/-
# The protocol between the sixteen devices

The devices stand on a circle; `peer s c` is the device `s + 1` places after `c`, for `s` from 0 to 14, so that a
device's peers are all the others. The table of what happens on each counter, one round each:

* the barrier counter of device `c` (waited on for 15): one unit from each peer. The signal that `peer s c` sends
  hands `c` the right to write `c`'s rows of the receive buffer OF THAT PEER;
* receive counter `k` of device `c` (waited on for one block): the copy from the device `k + 1` places before `c`.
  Its landing hands `c` those 24 rows of its own receive buffer, holding the sender's packed rows;
* send counter `k` of device `c`: the same copy seen by the sender. It hands back the share of the packed buffer the
  copy read;
* the local counter of device `c`: the copy of its own packed rows into its own rows of its receive buffer.

The contents `pk` of the packed buffers are a parameter throughout.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option backward.proofsInPublic true

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type} [FloatOps F]

/-! ## The circle -/

/-- The device `s + 1` places after `c`. -/
def peer (s : Fin 15) (c : Dev nD) : Dev nD := ⟨(c.val + s.val + 1) % 16, Nat.mod_lt _ (by decide)⟩

/-- Going `s + 1` places and then the remaining `15 - s` comes back. -/
theorem peer_rev (s : Fin 15) (c : Dev nD) : peer (Fin.rev s) (peer s c) = c := by revert c s; decide
/-- The same the other way round. -/
theorem rev_peer (s : Fin 15) (c : Dev nD) : peer s (peer (Fin.rev s) c) = c := by revert c s; decide
/-- No device is its own peer. -/
theorem peer_ne (s : Fin 15) (c : Dev nD) : peer s c ≠ c := by revert c s; decide
/-- Different steps lead to different peers. -/
theorem peer_inj (c : Dev nD) : Function.Injective fun s => peer s c := by revert c; decide
/-- The devices are `c` and its peers. -/
theorem univ_peer (c : Dev nD) : (Finset.univ : Finset (Dev nD)) = insert c (Finset.univ.map ⟨fun s => peer s c, peer_inj c⟩) := by
  revert c; decide

/-- Step `s` as a permutation of the devices. -/
def turn (s : Fin 15) : Dev nD ≃ Dev nD := ⟨peer s, peer (Fin.rev s), peer_rev s, rev_peer s⟩

/-! ## The resource algebra -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers -/

abbrev packM : Memref sig .tc .vmem S24x512 .bf16 := Memref.whole cc0_scratch1
abbrev recvM : Memref sig .tc .vmem S384x512 .bf16 := Memref.whole cc0_scratch2
/-- Device `d`'s rows of a receive buffer. -/
abbrev rowsM (d : Dev nD) : Memref sig .tc .vmem S24x512 .bf16 :=
  recvM.slice (Rect.unit (s := S384x512) (k0_off1 d) S24x512.size (k0_off1_inb d)) (fun _ => rfl)
/-- The packed buffer as the remote copies name it. -/
abbrev packM0 : Memref sig .tc .vmem S24x512 .bf16 :=
  packM.slice (Rect.unit (s := S24x512) ![0, 0] S24x512.size inb_S24x512_S24x512_0_0) (fun _ => rfl)

/-- What one copy of a packed buffer credits. -/
abbrev N : ℕ := packM.view.dmaCredit
theorem N_pos : 0 < N := View.dmaCredit_pos _ (by decide)

/-! ## Semaphores and their cells -/

abbrev barS : Sem sig := (SemArray.scalar (sig.barrier 0 rfl) : Sems sig S_).sem
abbrev sendSem (k : Fin 15) : DmaSem sig := ⟨5 + k.val, by have := k.isLt; change 5 + k.val < 36; omega⟩
abbrev recvSem (k : Fin 15) : DmaSem sig := ⟨20 + k.val, by have := k.isLt; change 20 + k.val < 36; omega⟩
abbrev locSem : DmaSem sig := ⟨35, by decide⟩

abbrev barCell (c : Dev nD) : GSem nD τ sig := ((c : Thread nD τ), .reg barS)
abbrev sendCell (k : Fin 15) (c : Dev nD) : GSem nD τ sig := ((c : Thread nD τ), .dma (sendSem k))
abbrev recvCell (k : Fin 15) (c : Dev nD) : GSem nD τ sig := ((c : Thread nD τ), .dma (recvSem k))
abbrev locCell (c : Dev nD) : GSem nD τ sig := ((c : Thread nD τ), .dma locSem)

/-- The names of a device's own counters: sends, receives, the local copy. -/
abbrev Own : Type := Fin 15 ⊕ (Fin 15 ⊕ Unit)
abbrev osem : Own → SemLoc sig
  | .inl k => .dma (sendSem k)
  | .inr (.inl k) => .dma (recvSem k)
  | .inr (.inr _) => .dma locSem
/-- All its counters: its own and the barrier's. -/
abbrev csem : Own ⊕ Unit → SemLoc sig
  | .inl o => osem o
  | .inr _ => .reg barS
abbrev kcell (ck : Dev nD × (Own ⊕ Unit)) : GSem nD τ sig := ((ck.1 : Thread nD τ), csem ck.2)

/-! ## What is handed over -/

/-- Device `d`'s rows of device `c`'s receive buffer, holding `f`. -/
def rowsPts (d c : Dev nD) (f : Vec F S384x512 .bf16) : sProp 𝕄 :=
  (rowsM d).view.loc (c : Thread nD τ) ↦[(rowsM d).view.set]{fullShare} f
/-- A share of device `c`'s packed buffer, holding `f`. -/
def packPts (c : Dev nD) (q : PosShare TreeShare) (f : Vec F S24x512 .bf16) : sProp 𝕄 :=
  packM.view.loc (c : Thread nD τ) ↦[packM.view.set]{q} f

/-- The share remote copy `k` reads through, and the local copy's. -/
abbrev shr (k : Fin 15) : PosShare TreeShare := shareTok fullShare 15 k
abbrev shrLoc : PosShare TreeShare := shareDrop fullShare 15

variable (pk : Dev nD → Vec F S24x512 .bf16)

/-- The signal from `peer t c` hands `c` its rows of that peer's receive buffer. -/
def barPay (t : Fin 15) (c : Dev nD) : sProp 𝕄 := iprop(∃ f, rowsPts c (peer t c) f)
/-- Copy `k` hands the sender its share of the packed buffer back, -/
def sendPay (k : Fin 15) (c : Dev nD) : sProp 𝕄 := packPts c (shr k) (pk c)
/-- and the receiver the sender's rows, filled. -/
def recvPay (k : Fin 15) (c : Dev nD) : sProp 𝕄 := rowsPts (peer (Fin.rev k) c) c (gathered pk)
/-- The local copy hands back both. -/
def locPay (c : Dev nD) : sProp 𝕄 := iprop(packPts c shrLoc (pk c) ∗ rowsPts c c (gathered pk))

instance rowsPts_storable (d c : Dev nD) (f : Vec F S384x512 .bf16) : BI.Storable (upEmb : UEmb _ 𝕄) (rowsPts d c f) := by
  unfold rowsPts; infer_instance
instance packPts_storable (c : Dev nD) (q : PosShare TreeShare) (f : Vec F S24x512 .bf16) :
    BI.Storable (upEmb : UEmb _ 𝕄) (packPts c q f) := by
  unfold packPts; infer_instance

/-- What lands on transfer counter `q` of device `c`. -/
def dmaPay (c : Dev nD) (q : DmaSem sig) : sProp 𝕄 :=
  if hs : 5 ≤ q.val ∧ q.val < 20 then sendPay pk ⟨q.val - 5, by omega⟩ c
  else if hr : 20 ≤ q.val ∧ q.val < 35 then recvPay pk ⟨q.val - 20, by omega⟩ c
  else locPay pk c

instance dmaPay_storable (c : Dev nD) (q : DmaSem sig) : BI.Storable (upEmb : UEmb _ 𝕄) (dmaPay pk c q) := by
  unfold dmaPay sendPay recvPay locPay
  (repeat' split) <;> infer_instance

/-- The schedule: one round; fifteen unit duties on a barrier counter, one duty of a block's credit on a transfer counter. -/
def sched : Rounds.Schedule (GSem nD τ sig) (Fin 15) 𝕄 where
  duties g r := if r = 0 then (match g.2 with | .reg _ => Finset.univ | .dma _ => {0}) else ∅
  unitless _ := False
  amount g _ _ := match g.2 with | .reg _ => 1 | .dma _ => N
  payload g _ d := match g.2 with
    | .reg _ => barPay (Fin.rev d) g.1.1
    | .dma q => dmaPay pk g.1.1 q
  amount_pos g _ _ _ := by
    obtain ⟨t, _ | _⟩ := g
    · exact Nat.one_pos
    · exact N_pos

instance sched_storable (g : GSem nD τ sig) (r : ℕ) (d : Fin 15) :
    BI.Storable (upEmb : UEmb _ 𝕄) ((sched pk).payload g r d) := by
  obtain ⟨t, _ | q⟩ := g
  · show BI.Storable upEmb (barPay (Fin.rev d) t.1)
    unfold barPay; infer_instance
  · exact dmaPay_storable pk t.1 q

/-! ## The schedule's table -/

theorem duties_bar (c : Dev nD) : (sched pk).duties (barCell c) 0 = Finset.univ := rfl
theorem duties_dma (c : Dev nD) (q : DmaSem sig) : (sched pk).duties ((c : Thread nD τ), .dma q) 0 = {0} := rfl
theorem duties_later (g : GSem nD τ sig) : ∀ r, 1 ≤ r → (sched pk).duties g r = ∅ :=
  fun r hr => if_neg (by omega)
theorem amount_bar (c : Dev nD) (d : Fin 15) : (sched pk).amount (barCell c) 0 d = 1 := rfl
theorem amount_dma (c : Dev nD) (q : DmaSem sig) (d : Fin 15) : (sched pk).amount ((c : Thread nD τ), .dma q) 0 d = N := rfl
theorem expect_bar (c : Dev nD) : (sched pk).expect (barCell c) 0 = 15 := rfl
theorem expect_dma (c : Dev nD) (q : DmaSem sig) : (sched pk).expect ((c : Thread nD τ), .dma q) 0 = N := by
  unfold Schedule.expect Schedule.amountOf
  rw [duties_dma, Finset.sum_singleton, amount_dma]

theorem payload_bar (c : Dev nD) (d : Fin 15) : (sched pk).payload (barCell c) 0 d = barPay (Fin.rev d) c := rfl
theorem payload_send (k : Fin 15) (c : Dev nD) (d : Fin 15) : (sched pk).payload (sendCell k c) 0 d = sendPay pk k c := by
  have hk := k.isLt
  show dmaPay pk c (sendSem k) = _
  unfold dmaPay
  rw [dif_pos (by simp only [sendSem]; omega)]
  congr 1
  exact Fin.ext (Nat.add_sub_cancel_left ..)
theorem payload_recv (k : Fin 15) (c : Dev nD) (d : Fin 15) : (sched pk).payload (recvCell k c) 0 d = recvPay pk k c := by
  have hk := k.isLt
  show dmaPay pk c (recvSem k) = _
  unfold dmaPay
  rw [dif_neg (by simp only [recvSem]; omega), dif_pos (by simp only [recvSem]; omega)]
  congr 1
  exact Fin.ext (Nat.add_sub_cancel_left ..)
theorem payload_loc (c : Dev nD) (d : Fin 15) : (sched pk).payload (locCell c) 0 d = locPay pk c := by
  show dmaPay pk c locSem = _
  unfold dmaPay
  rw [dif_neg (by decide), dif_neg (by decide)]

/-- All a barrier wait receives: the device's rows at every peer. -/
theorem rest_bar (c : Dev nD) : bigSep ((sched pk).duties (barCell c) 0 \ ∅) (fun d => (sched pk).payload (barCell c) 0 d)
    = bigSep Finset.univ fun t : Fin 15 => (barPay t c : sProp 𝕄) := by
  rw [Finset.sdiff_empty, duties_bar, bigSep_univ_equiv Fin.revPerm (fun t : Fin 15 => (barPay t c : sProp 𝕄))]
  rfl
/-- What a wait on a transfer counter receives. -/
theorem rest_dma (c : Dev nD) (q : DmaSem sig) :
    bigSep ((sched pk).duties ((c : Thread nD τ), .dma q) 0 \ ∅) (fun d => (sched pk).payload ((c : Thread nD τ), .dma q) 0 d)
      = (sched pk).payload ((c : Thread nD τ), .dma q) 0 0 := by
  rw [Finset.sdiff_empty, duties_dma, bigSep_singleton]

/-! ## What a device owes; the order of waiting -/

/-- The signals still to send (`A`) and the copies still to start (`B`). -/
def owed (c : Dev nD) (A B : Finset (Fin 15)) : CellTallies nD τ sig Unit :=
  (∑ s ∈ A, tallyAt (barCell (peer s c)) () 1) + ∑ s ∈ B, tallyAt (recvCell s (peer s c)) () N

/-- Every barrier and transfer counter of a device is waited on by its core. -/
def L (g : GSem nD τ sig) : Finset Unit := if g.1.2 = .tc then {()} else ∅
/-- Barrier counters come first, receive counters after them; the rest may be waited on whatever is owed. -/
def lv (g : GSem nD τ sig) (_ : Unit) : ℕ :=
  match g.2 with
  | .reg _ => 1
  | .dma q => if 20 ≤ q.val ∧ q.val < 35 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (k : Fin 15) (c : Dev nD) : lv (recvCell k c) () = 2 := by
  have := k.isLt
  show (if 20 ≤ 20 + k.val ∧ 20 + k.val < 35 then 2 else 0) = 2
  rw [if_pos (by omega)]

/-- Only barrier counters and receive counters are owed anything. -/
theorem owed_pos {c : Dev nD} {A B : Finset (Fin 15)} {g : GSem nD τ sig} {u : Unit} (h : 0 < owed c A B g u) :
    (∃ s ∈ A, g = barCell (peer s c)) ∨ ∃ s ∈ B, g = recvCell s (peer s c) := by
  by_contra hn
  rw [not_or] at hn
  refine absurd h (Nat.not_lt.mpr (Nat.le_of_eq ?_))
  unfold owed
  rw [Pi.add_apply, Finsupp.add_apply, Finset.sum_apply, Finset.sum_apply, Finsupp.finsetSum_apply, Finsupp.finsetSum_apply,
    Finset.sum_eq_zero fun s hs => by rw [tallyAt_apply, if_neg fun e => hn.1 ⟨s, hs, e.1⟩],
    Finset.sum_eq_zero fun s hs => by rw [tallyAt_apply, if_neg fun e => hn.2 ⟨s, hs, e.1⟩], Nat.add_zero]

theorem owed_none (c : Dev nD) : owed c ∅ ∅ = 0 := by
  unfold owed; rw [Finset.sum_empty, Finset.sum_empty, add_zero]

/-- A device may wait below everything it owes. -/
theorem mayWait (c : Dev nD) (sm : SemLoc sig) (A B : Finset (Fin 15)) (n : ℕ) (hn : lv ((c : Thread nD τ), sm) () ≤ n)
    (hA : A.Nonempty → n < 1) (hB : n < 2) :
    (levAts L lv : sProp 𝕄) ⊢ MayWait (c : Thread nD τ) sm () (owed c A B) :=
  MayOwe.of_cut (L := L) (lev := lv) n
    (fun p hp => by rw [Finset.mem_singleton.mp hp, L_tc]; exact Finset.mem_singleton_self _)
    (fun g u hg => by rcases owed_pos hg with ⟨s, -, rfl⟩ | ⟨s, -, rfl⟩ <;> exact Finset.mem_singleton_self _)
    (fun p hp => by rw [Finset.mem_singleton.mp hp]; exact hn)
    (fun g u hg => by
      rcases owed_pos hg with ⟨s, hs, rfl⟩ | ⟨s, -, rfl⟩
      · rw [lv_bar]; exact hA ⟨s, hs⟩
      · rw [lv_recv]; exact hB)

/-- The barrier is waited on owing copies only. -/
theorem mayWait_bar (c : Dev nD) (B : Finset (Fin 15)) :
    (levAts L lv : sProp 𝕄) ⊢ MayWait (c : Thread nD τ) (.reg barS) () (owed c ∅ B) :=
  mayWait c _ ∅ B 1 (Nat.le_refl _) (fun h => absurd h Finset.not_nonempty_empty) (by decide)

end Cert.MoeProof

end
-- ==== Proof.Rows.lean ====
/-
# The receive buffer by device, the staging buffer by expert

Which elements each view of a buffer covers, and what reading and writing through it does to the contents.
-/
module

public import proofs.«01_k».proof.Proof.Protocol
public import Idealize.ShloMosaic.Lib.Pipeline.ValueKit
public import Idealize.ShloMosaic.Lib.Ring

@[expose] public section

set_option backward.proofsInPublic true

noncomputable section

namespace Cert.MoeProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type} [FloatOps F]

local notation "𝕄" => MT nD τ sig Unit (Elt F) ℕ UU ℕ

theorem zero2 : (![0, 0] : Fin 2 → Nat) = fun _ => 0 := funext fun a => by fin_cases a <;> rfl

/-! ## Rows of the receive buffer -/

theorem rows_set (d : Dev nD) :
    (rowsM d).view.set = (Rect.unit (s := S384x512) (k0_off1 d) S24x512.size (k0_off1_inb d)).set :=
  View.set_slice_whole _ _

/-- Device `d`'s rows are rows `24 d` to `24 d + 24`. -/
theorem mem_rows (d : Dev nD) (i : S384x512.Idx) :
    i ∈ (Rect.unit (s := S384x512) (k0_off1 d) S24x512.size (k0_off1_inb d)).set ↔ (i 0).val / 24 = d.val := by
  rw [Rect.mem_set_unit, k0_off1_eq]
  have h1 : (i 1).val < 512 := (i 1).isLt
  constructor
  · intro h
    have h0 := h 0
    have e0 : (![24 * d.val, 0] : Fin 2 → Nat) 0 = 24 * d.val := rfl
    have e1 : S24x512.size 0 = 24 := rfl
    rw [e0, e1] at h0
    omega
  · intro h a
    match a with
    | ⟨0, _⟩ => show 24 * d.val ≤ (i 0).val ∧ (i 0).val < 24 * d.val + 24; omega
    | ⟨1, _⟩ => show 0 ≤ (i 1).val ∧ (i 1).val < 0 + 512; omega

/-- A receive buffer is its sixteen devices' rows. -/
theorem recv_rows (c : Dev nD) (f : Vec F S384x512 .bf16) :
    (((c : Thread nD τ).loc cc0_scratch2) ↦{fullShare} f : sProp 𝕄) = bigSep Finset.univ fun d : Dev nD => rowsPts d c f := by
  have hd : ∀ b b' : Dev nD, b ≠ b' → Disjoint
      ((Rect.unit (s := S384x512) (k0_off1 b) S24x512.size (k0_off1_inb b)).set)
      ((Rect.unit (s := S384x512) (k0_off1 b') S24x512.size (k0_off1_inb b')).set) := fun b b' h =>
    Finset.disjoint_left.mpr fun i hi hi' => h (Fin.ext (((mem_rows b i).mp hi).symm.trans ((mem_rows b' i).mp hi')))
  have hc : (Finset.univ : Finset (Dev nD)).biUnion
      (fun b => (Rect.unit (s := S384x512) (k0_off1 b) S24x512.size (k0_off1_inb b)).set) = Finset.univ :=
    Finset.eq_univ_of_forall fun i => Finset.mem_biUnion.mpr
      ⟨⟨(i 0).val / 24, Nat.div_lt_of_lt_mul (i 0).isLt⟩, Finset.mem_univ _, (mem_rows _ i).mpr rfl⟩
  refine (Ring.pointsTo_blocks (ℓ := (c : Thread nD τ).loc cc0_scratch2)
    (fun b : Dev nD => (Rect.unit (s := S384x512) (k0_off1 b) S24x512.size (k0_off1_inb b)).set) hd hc f).trans ?_
  exact bigSep_congr fun d _ => by unfold rowsPts; rw [rows_set]

/-- A family over all devices is its member at `c` and its members at `c`'s peers. -/
theorem bigSep_peers (c : Dev nD) (Φ : Dev nD → sProp 𝕄) :
    bigSep Finset.univ Φ = iprop(Φ c ∗ bigSep Finset.univ fun s : Fin 15 => Φ (peer s c)) := by
  rw [univ_peer c, bigSep_insert, bigSep_map]
  · rfl
  · intro h
    obtain ⟨s, -, hs⟩ := Finset.mem_map.mp h
    exact peer_ne s c hs

/-- A receive buffer is the device's own rows and its peers' rows. -/
theorem recv_split (c : Dev nD) (f : Vec F S384x512 .bf16) :
    (((c : Thread nD τ).loc cc0_scratch2) ↦{fullShare} f : sProp 𝕄)
      = iprop(rowsPts c c f ∗ bigSep Finset.univ fun s : Fin 15 => rowsPts (peer s c) c f) := by
  rw [recv_rows, bigSep_peers c]

/-- The same from the receive counters' side: once every copy has landed the buffer is whole and filled. -/
theorem recv_join (pk : Dev nD → Vec F S24x512 .bf16) (c : Dev nD) :
    (((c : Thread nD τ).loc cc0_scratch2) ↦{fullShare} gathered pk : sProp 𝕄)
      = iprop(rowsPts c c (gathered pk) ∗ bigSep Finset.univ fun k : Fin 15 => recvPay pk k c) := by
  rw [recv_split, bigSep_univ_equiv Fin.revPerm (fun s : Fin 15 => (rowsPts (peer s c) c (gathered pk) : sProp 𝕄))]
  rfl

/-- Writing device `d`'s packed rows into its rows makes them what the full buffer holds there. -/
theorem rows_landed (pk : Dev nD → Vec F S24x512 .bf16) (d c : Dev nD) (f : Vec F S384x512 .bf16) :
    ((rowsM d).view.loc (c : Thread nD τ) ↦[(rowsM d).view.set]{fullShare} (rowsM d).view.write (Elt F) f (pk d) Finset.univ : sProp 𝕄)
      = rowsPts d c (gathered pk) := by
  unfold rowsPts
  refine pointsTo_congr fun i hi => ?_
  obtain ⟨j, -, rfl⟩ := Finset.mem_map.mp hi
  rw [View.write_emb_of_mem _ _ (Finset.mem_univ _)]
  have h0 : ((((rowsM d).view.emb j : S384x512.Idx) 0 : Fin _) : Nat) = 24 * d.val + (j 0).val := by
    have := ValueKit.view_emb_slice_whole_unit_val cc0_scratch2 (k0_off1 d) S24x512.size (k0_off1_inb d) j (0 : Fin 2)
    exact this.trans (congrArg (· + (j 0).val) (congrFun (k0_off1_eq d) 0))
  have h1 : ((((rowsM d).view.emb j : S384x512.Idx) 1 : Fin _) : Nat) = (j 1).val := by
    have := ValueKit.view_emb_slice_whole_unit_val cc0_scratch2 (k0_off1 d) S24x512.size (k0_off1_inb d) j (1 : Fin 2)
    exact (this.trans (congrArg (· + (j 1).val) (congrFun (k0_off1_eq d) 1))).trans (Nat.zero_add _)
  have hj : (j 0).val < 24 := (j 0).isLt
  have hj1 : (j 1).val < 512 := (j 1).isLt
  show pk d j = gathered pk ((rowsM d).view.emb j)
  unfold gathered
  have ed : (⟨(((rowsM d).view.emb j : S384x512.Idx) 0).val / 24, Nat.div_lt_of_lt_mul (((rowsM d).view.emb j : S384x512.Idx) 0).isLt⟩ : Dev nD) = d :=
    Fin.ext (by show (((rowsM d).view.emb j : S384x512.Idx) 0).val / 24 = d.val; rw [h0]; omega)
  rw [ed]
  congr 1
  refine (ValueIdx.eq_ix2 j).trans ?_
  congr 1
  · exact Fin.ext (by show (j 0).val = (((rowsM d).view.emb j : S384x512.Idx) 0).val % 24; rw [h0]; omega)
  · exact Fin.ext (by show (j 1).val = (((rowsM d).view.emb j : S384x512.Idx) 1).val; rw [h1])

/-! ## The packed buffer -/

/-- The remote copies' source is the whole packed buffer. -/
theorem pack0_set : packM0.view.set = Finset.univ := by
  refine (View.set_slice_whole _ _).trans (Finset.eq_univ_of_forall fun i => ?_)
  rw [Rect.mem_set_unit]
  intro a
  match a with
  | ⟨0, _⟩ => exact ⟨Nat.zero_le _, by have h : (i 0).val < 24 := (i 0).isLt; show (i 0).val < 0 + 24; omega⟩
  | ⟨1, _⟩ => exact ⟨Nat.zero_le _, by have h : (i 1).val < 512 := (i 1).isLt; show (i 1).val < 0 + 512; omega⟩

theorem pack0_read (f : Vec F S24x512 .bf16) : packM0.view.read (Elt F) f = f :=
  Memref.readAt_unit_zero (Elt F) cc0_scratch1 zero2 _ f

theorem packPts_eq (c : Dev nD) (q : PosShare TreeShare) (f : Vec F S24x512 .bf16) :
    packPts c q f = (((c : Thread nD τ).loc cc0_scratch1) ↦{q} f : sProp 𝕄) := by
  unfold packPts; rw [View.set_whole]

theorem pack0_pts (c : Dev nD) (q : PosShare TreeShare) (f : Vec F S24x512 .bf16) :
    (packM0.view.loc (c : Thread nD τ) ↦[packM0.view.set]{q} f : sProp 𝕄) = packPts c q f := by
  rw [packPts_eq, pack0_set]

/-- The packed buffer is the local copy's share and the fifteen remote copies' shares. -/
theorem pack_shares (c : Dev nD) (f : Vec F S24x512 .bf16) :
    (((c : Thread nD τ).loc cc0_scratch1) ↦{fullShare} f : sProp 𝕄)
      = iprop(packPts c shrLoc f ∗ bigSep Finset.univ fun k : Fin 15 => packPts c (shr k) f) := by
  simp only [packPts_eq]
  exact BI.Entails.antisymm (pointsTo_toks fullShare 15).1 (pointsTo_toks fullShare 15).2

/-! ## The staging buffer -/

abbrev stageM : Memref sig .tc .vmem S32x512 .bf16 := Memref.whole cc0_scratch0

/-- One write of eight rows from row `o`: at row `i` the new contents if `i` is one of them, else the old. -/
theorem stage_write (o : Nat) (inb : ∀ a, (![o, 0] : Fin 2 → Nat) a + S8x512.size a ≤ S32x512.size a)
    (f : Vec F S32x512 .bf16) (w : Vec F S8x512 .bf16) (i : S32x512.Idx) :
    (stageM.access (Rect.unit (s := S32x512) ![o, 0] S8x512.size inb) : View sig .tc _ _ _).write (Elt F) f w Finset.univ i
      = if h : o ≤ (i 0).val ∧ (i 0).val < o + 8 then w (ValueIdx.ix2 ⟨(i 0).val - o, by omega⟩ (i 1)) else f i := by
  by_cases h : o ≤ (i 0).val ∧ (i 0).val < o + 8
  · rw [dif_pos h]
    have hi : i = (stageM.access (Rect.unit (s := S32x512) ![o, 0] S8x512.size inb) : View sig .tc _ _ _).emb
        (ValueIdx.ix2 (⟨(i 0).val - o, by omega⟩ : Fin 8) (i 1)) := by
      funext a
      refine Fin.ext ?_
      have := ValueKit.view_emb_slice_whole_unit_val cc0_scratch0 ![o, 0] S8x512.size inb (ValueIdx.ix2 (⟨(i 0).val - o, by omega⟩ : Fin 8) (i 1)) a
      refine Eq.trans ?_ this.symm
      match a with
      | ⟨0, _⟩ => show (i 0).val = o + ((i 0).val - o); omega
      | ⟨1, _⟩ => show (i 1).val = 0 + (i 1).val; omega
    conv_lhs => rw [hi]
    rw [View.write_emb_of_mem _ _ (Finset.mem_univ _)]
    rfl
  · rw [dif_neg h]
    refine View.write_of_not_mem _ _ _ fun hm => h ?_
    have hm' : i ∈ (Rect.unit (s := S32x512) ![o, 0] S8x512.size inb).set := by
      rw [← View.set_slice_whole cc0_scratch0]; exact hm
    exact (Rect.mem_set_unit.mp hm') 0

/-- Writing four blocks of eight rows one under the other replaces all contents by the stack of them. -/
theorem stage_writes (f : Vec F S32x512 .bf16) (p : Fin 4 → Vec F S8x512 .bf16) :
    (stageM.access (Rect.unit (s := S32x512) ![24, 0] S8x512.size inb_S32x512_S8x512_24_0) : View sig .tc _ _ _).write (Elt F)
      ((stageM.access (Rect.unit (s := S32x512) ![16, 0] S8x512.size inb_S32x512_S8x512_16_0) : View sig .tc _ _ _).write (Elt F)
        ((stageM.access (Rect.unit (s := S32x512) ![8, 0] S8x512.size inb_S32x512_S8x512_8_0) : View sig .tc _ _ _).write (Elt F)
          ((stageM.access (Rect.unit (s := S32x512) ![0, 0] S8x512.size inb_S32x512_S8x512_0_0) : View sig .tc _ _ _).write (Elt F)
            f (p 0) Finset.univ) (p 1) Finset.univ) (p 2) Finset.univ) (p 3) Finset.univ = stack p := by
  funext i
  have hi : (i 0).val < 32 := (i 0).isLt
  have key : ∀ (e : Fin 4) (o : Nat) (ho : o = 8 * e.val) (h : o ≤ (i 0).val ∧ (i 0).val < o + 8),
      p e (ValueIdx.ix2 ⟨(i 0).val - o, by omega⟩ (i 1)) = stack p i := by
    intro e o ho h
    unfold stack
    have he : (⟨(i 0).val / 8, Nat.div_lt_of_lt_mul (i 0).isLt⟩ : Fin 4) = e := Fin.ext (by show (i 0).val / 8 = e.val; omega)
    rw [he]
    refine congrArg (fun z : Fin 8 => p e (ValueIdx.ix2 z (i 1))) ?_
    exact Fin.ext (by show (i 0).val - o = (i 0).val % 8; omega)
  rw [stage_write 24]; split; · exact key 3 24 rfl ‹_›
  rw [stage_write 16]; split; · exact key 2 16 rfl ‹_›
  rw [stage_write 8]; split; · exact key 1 8 rfl ‹_›
  rw [stage_write 0]; split; · exact key 0 0 rfl ‹_›
  omega

/-! ## Loads -/

/-- The load of local expert `e`'s weights. -/
theorem slab_read (e : Fin 4) (inb : ∀ a, (![e.val, 0, 0] : Fin 3 → Nat) a + S1x256x512.size a ≤ S4x256x512.size a) (W : Vec F S4x256x512 .bf16) :
    (Memref.whole cc0_stg3_0 : Memref sig .tc .vmem S4x256x512 .bf16).view.readAt (Elt F)
      (Rect.unit (s := S4x256x512) ![e.val, 0, 0] S1x256x512.size inb).toLoadRect W = slabV W e := by
  funext i
  rw [View.readAt_apply]
  refine congrArg W (funext fun a => Fin.ext ?_)
  have := ValueKit.rect_emb_unit_val (s := S4x256x512) ![e.val, 0, 0] S1x256x512.size inb i a
  refine Eq.trans (by exact this) ?_
  match a with
  | ⟨0, _⟩ =>
    have h : (i 0).val < 1 := (i 0).isLt
    show e.val + (i 0).val = e.val; omega
  | ⟨1, _⟩ => show 0 + (i 1).val = (i 1).val; omega
  | ⟨2, _⟩ => show 0 + (i 2).val = (i 2).val; omega

/-- The rectangle of the device's own thirty-two rows of a column over all tokens. -/
theorem own_rows (c : Dev nD) (v : Vec F S512x1 .i32) :
    (fun x => v ((Rect.unit (s := S512x1) (k0_off2 c) S32x1.size (k0_off2_inb c)).toLoadRect.idx x)) = ownRows (F := F) c v := by
  funext x
  refine congrArg v (funext fun a => Fin.ext ?_)
  have := ValueKit.rect_emb_unit_val (s := S512x1) (k0_off2 c) S32x1.size (k0_off2_inb c) x a
  refine Eq.trans (by exact this) ?_
  rw [congrFun (k0_off2_eq c) a]
  match a with
  | ⟨0, _⟩ => rfl
  | ⟨1, _⟩ => show 0 + (x 1).val = (x 1).val; omega

/-- The load of the device's own ranks, -/
theorem own_rank (c : Dev nD) (v : Vec F S512x1 .i32) :
    (Memref.whole cc0_scratch3 : Memref sig .tc .vmem S512x1 .i32).view.readAt (Elt F)
      (Rect.unit (s := S512x1) (k0_off2 c) S32x1.size (k0_off2_inb c)).toLoadRect v = ownRows (F := F) c v := own_rows c v
/-- and of its own tokens' experts. -/
theorem own_route (c : Dev nD) (v : Vec F S512x1 .i32) :
    (Memref.whole cc0_stg2_0 : Memref sig .tc .vmem S512x1 .i32).view.readAt (Elt F)
      (Rect.unit (s := S512x1) (k0_off2 c) S32x1.size (k0_off2_inb c)).toLoadRect v = ownRows (F := F) c v := own_rows c v

end Cert.MoeProof

end
-- ==== Proof.Steps.lean ====
/-
# One step of the protocol at a time

Each lemma executes one operation of the kernel that touches a counter: a signal, the start of a copy, a wait. The
state before and after is one assertion, indexed by how many of the fifteen steps of its kind are done.
-/
module

public import proofs.«01_k».proof.Proof.Rows

@[expose] public section

set_option backward.proofsInPublic true

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` to a result of which `Q` holds. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem runs_ret (c : Dev nD) {α : Type} (a : α) (Q : α → sProp 𝕄) : Q a ⊢ Runs c (.ret a) Q := by
  unfold Runs
  rw [wp_ret]
  iintro H; imodintro; iexact H
theorem runs_fupd (c : Dev nD) {α : Type} (a : α) (Q : α → sProp 𝕄) : iprop(|={Set.univ}=> Q a) ⊢ Runs c (.ret a) Q := by
  unfold Runs
  rw [wp_ret]
theorem runs_bind (c : Dev nD) {α β : Type} (p : Prog (TpuEff nD τ sig (Elt F) Λ₀ .tc) α) (k : α → Prog (TpuEff nD τ sig (Elt F) Λ₀ .tc) β)
    (Q : β → sProp 𝕄) : Runs c p (fun a => Runs c (k a) Q) ⊢ Runs c (p >>= k) Q := by
  unfold Runs
  rw [wp_bind]

/-! ## Loads and stores of the device's own buffers -/

/-- Device `c`'s buffer `b` holds `f`. -/
abbrev holds (c : Dev nD) (b : Ref sig .tc) (f : b.ty.Contents (Elt F)) : sProp 𝕄 := ((c : Thread nD τ).loc b) ↦{fullShare} f

/-- A load from a buffer held whole. -/
theorem step_load (c : Dev nD) {cs : CoreSpace} {s : Shape} {e : EltTy} (M : Memref sig .tc cs s e) {r : LoadRect s} (f : Buf (Elt F) (M.view.loc (c : Thread nD τ)))
    (v : r.shape.Idx → Elt F e) (hv : M.view.readAt (Elt F) r f = v) {hl : M.view.LoadsAt r}
    {α : Type} {Q : α → sProp 𝕄} {cont : (r.shape.Idx → Elt F e) → Prog (TpuEff nD τ sig (Elt F) Λ₀ .tc) α} :
    (M.view.loc (c : Thread nD τ) ↦{fullShare} f : sProp 𝕄)
      ⊢ iprop(((M.view.loc (c : Thread nD τ) ↦{fullShare} f) -∗ Runs c (cont v) Q) -∗ Runs c (.op (.load M r hl) cont) Q) := by
  subst hv
  exact wp_load 𝒱₀ (c : Thread nD τ) none Set.univ (m := M) (Finset.subset_univ _)

/-- A store into a buffer held whole. -/
theorem step_store (c : Dev nD) {cs : CoreSpace} {s : Shape} {e : EltTy} (M : Memref sig .tc cs s e) {r : Rect s} (f : Buf (Elt F) (M.view.loc (c : Thread nD τ)))
    (w : r.shape.Idx → Elt F e) (f' : Buf (Elt F) (M.view.loc (c : Thread nD τ))) (hf : (M.access r).write (Elt F) f w Finset.univ = f')
    {hx : (M.access r).Stores Finset.univ} {hm : (Finset.univ : Finset r.shape.Idx) = Finset.univ ∨ ∀ a, r.stride a = 1}
    {α : Type} {Q : α → sProp 𝕄} {cont : PUnit → Prog (TpuEff nD τ sig (Elt F) Λ₀ .tc) α} :
    (M.view.loc (c : Thread nD τ) ↦{fullShare} f : sProp 𝕄)
      ⊢ iprop(((M.view.loc (c : Thread nD τ) ↦{fullShare} f') -∗ Runs c (cont ⟨⟩) Q)
          -∗ Runs c (.op (.store M r w Finset.univ hx hm) cont) Q) := by
  subst hf
  exact wp_store 𝒱₀ (c : Thread nD τ) none Set.univ (m := M) (r := r) (Mk := Finset.univ) (Finset.subset_univ _)

/-! ## Steps done and steps to come -/

/-- The steps from `n` on, -/
def rest (n : ℕ) : Finset (Fin 15) := Finset.univ.filter fun s => n ≤ s.val
/-- and the steps before `n`. -/
def done (n : ℕ) : Finset (Fin 15) := Finset.univ.filter fun s => s.val < n

theorem rest_zero : rest 0 = Finset.univ := by decide
theorem rest_end : rest 15 = ∅ := by decide
theorem done_zero : done 0 = ∅ := by decide
theorem done_end : done 15 = Finset.univ := by decide
theorem rest_step (k : Fin 15) : rest k.val = insert k (rest (k.val + 1)) := by revert k; decide
theorem done_step (k : Fin 15) : done (k.val + 1) = insert k (done k.val) := by revert k; decide
theorem not_rest (k : Fin 15) : k ∉ rest (k.val + 1) := by revert k; decide
theorem not_done (k : Fin 15) : k ∉ done k.val := by revert k; decide

/-- The next step taken out of those to come. -/
theorem take_rest (k : Fin 15) (Φ : Fin 15 → sProp 𝕄) :
    bigSep (rest k.val) Φ = iprop(Φ k ∗ bigSep (rest (k.val + 1)) Φ) := by
  rw [rest_step, bigSep_insert (not_rest k)]; rfl
/-- The step just done put to those done. -/
theorem put_done (k : Fin 15) (Φ : Fin 15 → sProp 𝕄) :
    bigSep (done (k.val + 1)) Φ = iprop(Φ k ∗ bigSep (done k.val) Φ) := by
  rw [done_step, bigSep_insert (not_done k)]; rfl

theorem owed_signal (k : Fin 15) (c : Dev nD) (B : Finset (Fin 15)) :
    owed c (rest k.val) B = owed c (rest (k.val + 1)) B + tallyAt (barCell (peer k c)) () 1 := by
  unfold owed
  rw [rest_step, Finset.sum_insert (not_rest k)]
  abel
theorem owed_send (k : Fin 15) (c : Dev nD) :
    owed c ∅ (rest k.val) = owed c ∅ (rest (k.val + 1)) + tallyAt (recvCell k (peer k c)) () N := by
  unfold owed
  rw [rest_step, Finset.sum_insert (not_rest k)]
  abel

/-! ## The counters as the kernel names them -/

theorem send_sem (k : Fin 15) (n : ℕ) (hn : k.val = n) (inb : ∀ a, (![n] : Fin 1 → Nat) a + S1.size a ≤ S15.size a) :
    ((cc0_scratch4.slice (Rect.unit (s := S15) ![n] S1.size inb)).squeeze S_ squeezes_S1_S_).sem = sendSem k := by
  subst hn
  revert k; decide
theorem recv_sem (k : Fin 15) (n : ℕ) (hn : k.val = n) (inb : ∀ a, (![n] : Fin 1 → Nat) a + S1.size a ≤ S15.size a) :
    ((cc0_scratch5.slice (Rect.unit (s := S15) ![n] S1.size inb)).squeeze S_ squeezes_S1_S_).sem = recvSem k := by
  subst hn
  revert k; decide
theorem loc_sem : cc0_scratch6.sem = locSem := by decide

/-! ## What every device knows -/

variable (pk : Dev nD → Vec F S24x512 .bf16) (K : Dev nD × (Own ⊕ Unit) → ℕ)

/-- Every counter of every device follows the schedule, and its round has begun. -/
def records : sProp 𝕄 :=
  iprop((bigSep Finset.univ fun ck : Dev nD × (Own ⊕ Unit) => cellInv ER (sched pk) (K ck) (kcell ck))
    ∗ bigSep Finset.univ fun ck : Dev nD × (Own ⊕ Unit) => reached ER (kcell ck) 0)

instance records_persistent : BI.Persistent (records pk K) := by unfold records; infer_instance

theorem inv_at (ck : Dev nD × (Own ⊕ Unit)) : records pk K ⊢ cellInv ER (sched pk) (K ck) (kcell ck) := by
  unfold records
  iintro ⟨H, -⟩
  have h : (bigSep Finset.univ fun ck : Dev nD × (Own ⊕ Unit) => (cellInv ER (sched pk) (K ck) (kcell ck) : sProp 𝕄))
    ⊢ cellInv ER (sched pk) (K ck) (kcell ck) := bigSep_elim (Finset.mem_univ ck)
  iapply h; iexact H
theorem reached_at (ck : Dev nD × (Own ⊕ Unit)) : records pk K ⊢ reached ER (kcell ck) 0 := by
  unfold records
  iintro ⟨-, H⟩
  have h : (bigSep Finset.univ fun ck : Dev nD × (Own ⊕ Unit) => (reached ER (kcell ck) 0 : sProp 𝕄)) ⊢ reached ER (kcell ck) 0 :=
    bigSep_elim (Finset.mem_univ ck)
  iapply h; iexact H

/-! ## Signals -/

/-- Before signal `n`: the signals and all copies owed; for each signal to come, its duty and the rows it hands over. -/
def sigSt (c : Dev nD) (n : ℕ) : sProp 𝕄 :=
  iprop((∃ W, owes (c : Thread nD τ) (owed c (rest n) Finset.univ) W)
    ∗ bigSep (rest n) fun s => iprop(dutyTok ER (barCell (peer s c)) 0 s ∗ ∃ f, rowsPts (peer s c) c f))

/-- Signal `k`, to `peer k c`: it hands over that peer's rows of the signaller's receive buffer. -/
theorem step_signal (c : Dev nD) (k : Fin 15) (i : ℕ) (hi : k.val = i) (n : Dev nD) (hn : n = peer k c) {α : Type} {Q : α → sProp 𝕄}
    {cont : PUnit → Prog (TpuEff nD τ sig (Elt F) Λ₀ .tc) α} :
    records pk K ⊢ iprop(sigSt c i -∗ (sigSt c (i + 1) -∗ Runs c (cont ⟨⟩) Q)
          -∗ Runs c (.op (.semSignal (n, .tc) barS (1#32 : BitVec 32).toInt) cont) Q) := by
  subst hi hn
  unfold sigSt
  rw [take_rest, owed_signal]
  iintro #HR ⟨⟨%W, HO⟩, ⟨Ht, Hrow⟩, Hrest⟩ Hk
  iapply (Rounds.wp_signal 𝒱₀ ER (sched pk) (c : Thread nD τ) none (dst := (peer k c : Thread nD τ)) (κ := K (peer k c, .inr ()))
      (d := k) (r := 0) (k' := 1) (by rw [duties_bar]; exact Finset.mem_univ _) (amount_bar pk (peer k c) k) ()
      (owed c (rest (k.val + 1)) Finset.univ) rfl) $$ [HO Ht Hrow]
  · isplitr; · iapply (inv_at pk K (peer k c, .inr ())); iexact HR
    isplitl [HO]; · iexact HO
    isplitl [Ht]; · iexact Ht
    isplitl [Hrow]
    · rw [payload_bar]; unfold barPay; rw [peer_rev]; iexact Hrow
    iapply (reached_at pk K (peer k c, .inr ())); iexact HR
  iintro HO
  iapply Hk
  isplitl [HO]; · iexists W; iexact HO
  iexact Hrest

/-! ## Copies to the peers -/

/-- What copy `s` needs: a share of the packed buffer, both duties, and the rows it fills at the receiver. -/
def sendNeed (c : Dev nD) (s : Fin 15) : sProp 𝕄 :=
  iprop(packPts c (shr s) (pk c) ∗ dutyTok ER (sendCell s c) 0 0 ∗ dutyTok ER (recvCell s (peer s c)) 0 0 ∗ ∃ f, rowsPts c (peer s c) f)

/-- Before copy `n`: the copies owed; what each copy to come needs; the right to wait for each copy started. -/
def sendSt (c : Dev nD) (n : ℕ) : sProp 𝕄 :=
  iprop((∃ W, owes (c : Thread nD τ) (owed c ∅ (rest n)) W)
    ∗ bigSep (rest n) (sendNeed pk c)
    ∗ bigSep (done n) fun s => cred (tallyAt (sendCell s c) () N))

/-- Copy `k`, to `peer k c`. -/
theorem step_send (c : Dev nD) (k : Fin 15) (i : ℕ) (hi : k.val = i) (n : Dev nD) (hn : n = peer k c) (sS sR : DmaSem sig) (hS : sS = sendSem k) (hR : sR = recvSem k)
    {hsc : (rowsM c : Memref sig (Dev.tc n : Thread nD τ).2.kind .vmem S24x512 .bf16).view.ref.isScScratch = false}
    {hsrc : packM0.view.WordExact} {hdst : (rowsM c).view.WordExact}
    {hsem : DmaTarget.Typed .vmem (.dma sR) (.remote (Dev.tc n : Thread nD τ) (rowsM c) (.dma sS) hsc)}
    {α : Type} {Q : α → sProp 𝕄} {cont : PUnit → Prog (TpuEff nD τ sig (Elt F) Λ₀ .tc) α} :
    records pk K ⊢ iprop(sendSt pk c i -∗ (sendSt pk c (i + 1) -∗ Runs c (cont ⟨⟩) Q)
          -∗ Runs c (.op (.enqueueDma packM0 (.remote (Dev.tc n : Thread nD τ) (rowsM c) (.dma sS) hsc) (.dma sR) hsrc hdst hsem) cont) Q) := by
  subst hi hn hS hR
  unfold sendSt
  rw [take_rest, owed_send, put_done]
  unfold sendNeed
  iintro #HR ⟨⟨%W, HO⟩, ⟨⟨Hp, HtS, HtR, ⟨%f, Hrow⟩⟩, Hrest⟩, Hdone⟩ Hk
  iapply (Rounds.wp_send_pointsTo 𝒱₀ ER (sched pk) (c : Thread nD τ) none (κ₁ := K (c, .inl (.inl k))) (κ₂ := K (peer k c, .inl (.inr (.inl k))))
      (c' := (peer k c : Thread nD τ)) (src := packM0) (dst := rowsM c)
      (q := shr k) (fs := pk c) (r₁ := 0) (r₂ := 0) (d₁ := 0) (d₂ := 0) (fd := f)
      (by rw [duties_dma]; exact Finset.mem_singleton_self _) (by rw [duties_dma]; exact Finset.mem_singleton_self _)
      () () N rfl (amount_dma pk c (sendSem k) 0) (amount_dma pk (peer k c) (recvSem k) 0) (owed c ∅ (rest (k.val + 1))) rfl (W := W)
      (by rw [payload_send]; unfold sendPay; exact Entails.of_eq (pack0_pts c (shr k) (pk c)))
      (by rw [payload_recv]; unfold recvPay; rw [pack0_read, peer_rev]; exact Entails.of_eq (rows_landed pk c (peer k c) f)))
    $$ [HO Hp HtS HtR Hrow]
  · isplitr; · iapply (inv_at pk K (c, .inl (.inl k))); iexact HR
    isplitr; · iapply (inv_at pk K (peer k c, .inl (.inr (.inl k)))); iexact HR
    isplitl [Hp]; · iapply (Entails.of_eq (pack0_pts c (shr k) (pk c)).symm); iexact Hp
    isplitl [Hrow]; · unfold rowsPts; iexact Hrow
    isplitl [HO]; · iexact HO
    isplitl [HtS]; · iexact HtS
    isplitr; · iapply (reached_at pk K (c, .inl (.inl k))); iexact HR
    isplitl [HtR]; · iexact HtR
    iapply (reached_at pk K (peer k c, .inl (.inr (.inl k)))); iexact HR
  iintro ⟨Hc, HO⟩
  iapply Hk
  isplitl [HO]; · iexists W; iexact HO
  isplitl [Hrest]; · iexact Hrest
  isplitl [Hc] <;> iassumption

/-! ## The local copy -/

/-- The copy of a device's packed rows into its own rows. -/
theorem step_local (c : Dev nD) (f : Vec F S384x512 .bf16) (sL : DmaSem sig) (hL : sL = locSem)
    {hsrc : packM.view.WordExact} {hdst : (rowsM c).view.WordExact} {hsem : DmaTarget.Typed (nD := nD) (τ := τ) (p := Proc.tc) .vmem (.dma sL) (.here (rowsM c))}
    {α : Type} {Q : α → sProp 𝕄} {cont : PUnit → Prog (TpuEff nD τ sig (Elt F) Λ₀ .tc) α} :
    iprop(records pk K ∗ packPts c shrLoc (pk c) ∗ rowsPts c c f ∗ dutyTok ER (locCell c) 0 0)
      ⊢ iprop((cred (tallyAt (locCell c) () N) -∗ Runs c (cont ⟨⟩) Q)
          -∗ Runs c (.op (.enqueueDma packM (.here (rowsM c)) (.dma sL) hsrc hdst hsem) cont) Q) := by
  subst hL
  iintro ⟨#HR, Hp, Hrow, Ht⟩ Hk
  iapply (Rounds.wp_copy_pointsTo 𝒱₀ ER (sched pk) (c : Thread nD τ) none (κ := K (c, .inl (.inr (.inr ())))) (src := packM) (dst := rowsM c)
      (q := shrLoc) (fs := pk c) (fd := f) (r := 0) (d := 0) (by rw [duties_dma]; exact Finset.mem_singleton_self _) () N rfl
      (amount_dma pk c locSem 0)
      (by
        rw [payload_loc]; unfold locPay
        iintro ⟨Hr, Hp⟩
        isplitl [Hp]; · unfold packPts; iexact Hp
        iapply (Entails.of_eq (rows_landed pk c c f)); iexact Hr)) $$ [Hp Hrow Ht]
  · isplitr; · iapply (inv_at pk K (c, .inl (.inr (.inr ())))); iexact HR
    isplitl [Hp]; · unfold packPts; iexact Hp
    isplitl [Hrow]; · unfold rowsPts; iexact Hrow
    isplitl [Ht]; · iexact Ht
    iapply (reached_at pk K (c, .inl (.inr (.inr ())))); iexact HR
  iexact Hk

/-! ## Waits -/

/-- The barrier wait: it receives the device's rows of every peer's receive buffer. -/
theorem step_barrier (c : Dev nD) {α : Type} {Q : α → sProp 𝕄} {cont : PUnit → Prog (TpuEff nD τ sig (Elt F) Λ₀ .tc) α} :
    iprop(records pk K ∗ levAts L lv ∗ cred (tallyAt (barCell c) () 15) ∗ sigSt c 15 ∗ atPos ER (barCell c) 0 ∅ 0)
      ⊢ iprop((((∃ W, owes (c : Thread nD τ) (owed c ∅ Finset.univ) W) ∗ atPos ER (barCell c) 1 ∅ 0
              ∗ bigSep Finset.univ fun t : Fin 15 => barPay t c) -∗ Runs c (cont ⟨⟩) Q)
          -∗ Runs c (.op (.semWait barS (15#32 : BitVec 32).toInt) cont) Q) := by
  unfold sigSt
  rw [rest_end]
  iintro ⟨#HR, #Hlev, Hc, ⟨⟨%W, HO⟩, -⟩, Hat⟩ Hk
  iapply (Rounds.wp_wait_rest_token 𝒱₀ ER (sched pk) (c : Thread nD τ) none (κ := K (c, .inr ())) (k' := 15)
      (wpE_semWait_eq 𝒱₀ (c : Thread nD τ) none Set.univ) (Set.mem_univ _) () (O := owed c ∅ Finset.univ) (W := W) (R := 0) (m := 0) (T := ∅)
      (by rw [expect_bar])) $$ [Hc HO Hat]
  · isplitr; · iapply (inv_at pk K (c, .inr ())); iexact HR
    isplitl [Hc]; · iexact Hc
    isplitl [HO]; · iexact HO
    isplitr; · iapply (mayWait_bar c Finset.univ); iexact Hlev
    iexact Hat
  iintro ⟨HO, Hat, -, Hpay⟩
  iapply Hk
  isplitl [HO]; · iexists _; iexact HO
  isplitl [Hat]; · iexact Hat
  iapply (Entails.of_eq (rest_bar pk c)); iexact Hpay

/-- A wait on one transfer counter, nothing owed. -/
theorem step_wait (c : Dev nD) (q : DmaSem sig) (κ : ℕ) {sp sp' : Space} {s s' : Shape} {e e' : EltTy} {src : Memref sig .tc sp' s' e'} {dst : Memref sig .tc sp s e}
    (hN : dst.view.dmaCredit = N) {hsrc : src.view.WordExact} {hdst : dst.view.WordExact}
    {α : Type} {Q : α → sProp 𝕄} {cont : PUnit → Prog (TpuEff nD τ sig (Elt F) Λ₀ .tc) α} :
    iprop(cellInv ER (sched pk) κ ((c : Thread nD τ), .dma q) ∗ (∃ W, owes (c : Thread nD τ) 0 W)
        ∗ cred (tallyAt ((c : Thread nD τ), .dma q) () N) ∗ atPos ER ((c : Thread nD τ), .dma q) 0 ∅ 0)
      ⊢ iprop((((∃ W, owes (c : Thread nD τ) 0 W) ∗ atPos ER ((c : Thread nD τ), .dma q) 1 ∅ 0
              ∗ (sched pk).payload ((c : Thread nD τ), .dma q) 0 0) -∗ Runs c (cont ⟨⟩) Q)
          -∗ Runs c (.op (.waitDma2 q src dst hsrc hdst) cont) Q) := by
  iintro ⟨#HI, ⟨%W, HO⟩, Hc, Hat⟩ Hk
  iapply (Rounds.wp_wait_rest_token 𝒱₀ ER (sched pk) (c : Thread nD τ) none (κ := κ) (sm := .dma q) (k' := dst.view.dmaCredit)
      (wpE_waitDma2_eq 𝒱₀ (c : Thread nD τ) none Set.univ) (Set.mem_univ _) () (O := 0) (W := W) (R := 0) (m := 0) (T := ∅)
      (by rw [Nat.zero_add, expect_dma, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iapply (Entails.of_eq (rest_dma pk c q)); iexact Hpay

/-- Before wait `n` on the receive counters, nothing owed: the right to wait for each copy to come; for each one landed,
    its counter's position and the rows it filled. -/
def recvSt (c : Dev nD) (n : ℕ) : sProp 𝕄 :=
  iprop((∃ W, owes (c : Thread nD τ) 0 W)
    ∗ (bigSep (rest n) fun s => iprop(cred (tallyAt (recvCell s c) () N) ∗ atPos ER (recvCell s c) 0 ∅ 0))
    ∗ bigSep (done n) fun s => iprop(atPos ER (recvCell s c) 1 ∅ 0 ∗ recvPay pk s c))

/-- Before wait `n` on the send counters: the same, the shares of the packed buffer coming back. -/
def backSt (c : Dev nD) (n : ℕ) : sProp 𝕄 :=
  iprop((∃ W, owes (c : Thread nD τ) 0 W)
    ∗ (bigSep (rest n) fun s => iprop(cred (tallyAt (sendCell s c) () N) ∗ atPos ER (sendCell s c) 0 ∅ 0))
    ∗ bigSep (done n) fun s => iprop(atPos ER (sendCell s c) 1 ∅ 0 ∗ sendPay pk s c))

/-- Wait `k` on the receive counters. -/
theorem step_recv (c : Dev nD) (k : Fin 15) (i : ℕ) (hi : k.val = i) (q : DmaSem sig) (hq : q = recvSem k) {sp sp' : Space} {s s' : Shape} {e e' : EltTy} {src : Memref sig .tc sp' s' e'}
    {dst : Memref sig .tc sp s e} (hN : dst.view.dmaCredit = N) {hsrc : src.view.WordExact} {hdst : dst.view.WordExact}
    {α : Type} {Q : α → sProp 𝕄} {cont : PUnit → Prog (TpuEff nD τ sig (Elt F) Λ₀ .tc) α} :
    records pk K ⊢ iprop(recvSt pk c i -∗ (recvSt pk c (i + 1) -∗ Runs c (cont ⟨⟩) Q) -∗ Runs c (.op (.waitDma2 q src dst hsrc hdst) cont) Q) := by
  subst hi hq
  unfold recvSt
  rw [take_rest, put_done]
  iintro #HR ⟨HO, ⟨⟨Hc, Hat⟩, Hrest⟩, Hdone⟩ Hk
  iapply (step_wait pk c (recvSem k) (K (c, .inl (.inr (.inl k)))) hN) $$ [HO Hc Hat]
  · isplitr; · iapply (inv_at pk K (c, .inl (.inr (.inl k)))); iexact HR
    isplitl [HO]; · iexact HO
    isplitl [Hc] <;> iassumption
  iintro ⟨HO, Hat, Hpay⟩
  iapply Hk
  isplitl [HO]; · iexact HO
  isplitl [Hrest]; · iexact Hrest
  isplitl [Hat Hpay]
  · isplitl [Hat]; · iexact Hat
    iapply (Entails.of_eq (payload_recv pk k c 0)); iexact Hpay
  iexact Hdone

/-- Wait `k` on the send counters. -/
theorem step_back (c : Dev nD) (k : Fin 15) (i : ℕ) (hi : k.val = i) (q : DmaSem sig) (hq : q = sendSem k) {sp sp' : Space} {s s' : Shape} {e e' : EltTy} {src : Memref sig .tc sp' s' e'}
    {dst : Memref sig .tc sp s e} (hN : dst.view.dmaCredit = N) {hsrc : src.view.WordExact} {hdst : dst.view.WordExact}
    {α : Type} {Q : α → sProp 𝕄} {cont : PUnit → Prog (TpuEff nD τ sig (Elt F) Λ₀ .tc) α} :
    records pk K ⊢ iprop(backSt pk c i -∗ (backSt pk c (i + 1) -∗ Runs c (cont ⟨⟩) Q) -∗ Runs c (.op (.waitDma2 q src dst hsrc hdst) cont) Q) := by
  subst hi hq
  unfold backSt
  rw [take_rest, put_done]
  iintro #HR ⟨HO, ⟨⟨Hc, Hat⟩, Hrest⟩, Hdone⟩ Hk
  iapply (step_wait pk c (sendSem k) (K (c, .inl (.inl k))) hN) $$ [HO Hc Hat]
  · isplitr; · iapply (inv_at pk K (c, .inl (.inl k))); iexact HR
    isplitl [HO]; · iexact HO
    isplitl [Hc] <;> iassumption
  iintro ⟨HO, Hat, Hpay⟩
  iapply Hk
  isplitl [HO]; · iexact HO
  isplitl [Hrest]; · iexact Hrest
  isplitl [Hat Hpay]
  · isplitl [Hat]; · iexact Hat
    iapply (Entails.of_eq (payload_send pk k c 0)); iexact Hpay
  iexact Hdone

/-! ## Between the phases -/

/-- The copies begin once the barrier was passed: the shares, the duties and the peers' rows are at hand. -/
theorem send_start (c : Dev nD) :
    iprop((∃ W, owes (c : Thread nD τ) (owed c ∅ Finset.univ) W) ∗ (bigSep Finset.univ fun k : Fin 15 => packPts c (shr k) (pk c))
        ∗ (bigSep Finset.univ fun s : Fin 15 => dutyTok ER (sendCell s c) 0 0) ∗ (bigSep Finset.univ fun s : Fin 15 => dutyTok ER (recvCell s (peer s c)) 0 0)
        ∗ bigSep Finset.univ fun t : Fin 15 => barPay t c) ⊢ sendSt pk c 0 := by
  unfold sendSt sendNeed barPay
  rw [rest_zero, done_zero, bigSep_empty, bigSep_sep', bigSep_sep', bigSep_sep']
  iintro ⟨HO, H1, H2, H3, H4⟩
  isplitl [HO]; · iexact HO
  isplitl [H1 H2 H3 H4]
  · isplitl [H1]; · iexact H1
    isplitl [H2]; · iexact H2
    isplitl [H3] <;> iassumption
  iempintro

/-- After the last copy nothing is owed. -/
theorem send_end (c : Dev nD) :
    sendSt pk c 15 ⊢ iprop((∃ W, owes (c : Thread nD τ) 0 W) ∗ bigSep Finset.univ fun s : Fin 15 => cred (tallyAt (sendCell s c) () N)) := by
  unfold sendSt
  rw [rest_end, done_end, bigSep_empty, owed_none]
  iintro ⟨HO, -, H⟩
  isplitl [HO] <;> iassumption

theorem recv_start (c : Dev nD) :
    iprop((∃ W, owes (c : Thread nD τ) 0 W) ∗ (bigSep Finset.univ fun s : Fin 15 => cred (tallyAt (recvCell s c) () N))
        ∗ bigSep Finset.univ fun s : Fin 15 => atPos ER (recvCell s c) 0 ∅ 0) ⊢ recvSt pk c 0 := by
  unfold recvSt
  rw [rest_zero, done_zero, bigSep_empty, bigSep_sep']
  iintro ⟨HO, H1, H2⟩
  isplitl [HO]; · iexact HO
  isplitl [H1 H2]; · isplitl [H1] <;> iassumption
  iempintro

theorem recv_end (c : Dev nD) :
    recvSt pk c 15 ⊢ iprop((∃ W, owes (c : Thread nD τ) 0 W) ∗ (bigSep Finset.univ fun s : Fin 15 => atPos ER (recvCell s c) 1 ∅ 0)
      ∗ bigSep Finset.univ fun k : Fin 15 => recvPay pk k c) := by
  unfold recvSt
  rw [rest_end, done_end, bigSep_empty, bigSep_sep']
  iintro ⟨HO, -, H1, H2⟩
  isplitl [HO]; · iexact HO
  isplitl [H1] <;> iassumption

theorem back_start (c : Dev nD) :
    iprop((∃ W, owes (c : Thread nD τ) 0 W) ∗ (bigSep Finset.univ fun s : Fin 15 => cred (tallyAt (sendCell s c) () N))
        ∗ bigSep Finset.univ fun s : Fin 15 => atPos ER (sendCell s c) 0 ∅ 0) ⊢ backSt pk c 0 := by
  unfold backSt
  rw [rest_zero, done_zero, bigSep_empty, bigSep_sep']
  iintro ⟨HO, H1, H2⟩
  isplitl [HO]; · iexact HO
  isplitl [H1 H2]; · isplitl [H1] <;> iassumption
  iempintro

theorem back_end (c : Dev nD) :
    backSt pk c 15 ⊢ iprop((∃ W, owes (c : Thread nD τ) 0 W) ∗ (bigSep Finset.univ fun s : Fin 15 => atPos ER (sendCell s c) 1 ∅ 0)
      ∗ bigSep Finset.univ fun k : Fin 15 => packPts c (shr k) (pk c)) := by
  unfold backSt sendPay
  rw [rest_end, done_end, bigSep_empty, bigSep_sep']
  iintro ⟨HO, -, H1, H2⟩
  isplitl [HO]; · iexact HO
  isplitl [H1] <;> iassumption

/-- Any twenty-four rows credit the same. -/
theorem credit_rows (M : Memref sig .tc .vmem S24x512 .bf16) : M.view.dmaCredit = N := rfl

/-- The wait for the local copy, between the copies and the waits for the peers. -/
theorem step_loc (c : Dev nD) (q : DmaSem sig) (hq : q = locSem) {sp sp' : Space} {s s' : Shape} {e e' : EltTy} {src : Memref sig .tc sp' s' e'}
    {dst : Memref sig .tc sp s e} (hN : dst.view.dmaCredit = N) {hsrc : src.view.WordExact} {hdst : dst.view.WordExact}
    {α : Type} {Q : α → sProp 𝕄} {cont : PUnit → Prog (TpuEff nD τ sig (Elt F) Λ₀ .tc) α} :
    records pk K ⊢ iprop((∃ W, owes (c : Thread nD τ) 0 W) -∗ cred (tallyAt (locCell c) () N) -∗ atPos ER (locCell c) 0 ∅ 0
      -∗ ((∃ W, owes (c : Thread nD τ) 0 W) -∗ atPos ER (locCell c) 1 ∅ 0 -∗ packPts c shrLoc (pk c) -∗ rowsPts c c (gathered pk) -∗ Runs c (cont ⟨⟩) Q)
      -∗ Runs c (.op (.waitDma2 q src dst hsrc hdst) cont) Q) := by
  subst hq
  iintro #HR HO Hc Hat Hk
  iapply (step_wait pk c locSem (K (c, .inl (.inr (.inr ())))) hN) $$ [HO Hc Hat]
  · isplitr; · iapply (inv_at pk K (c, .inl (.inr (.inr ())))); iexact HR
    isplitl [HO]; · iexact HO
    isplitl [Hc] <;> iassumption
  iintro ⟨HO, Hat, Hpay⟩
  ihave Hpay := (Entails.of_eq (payload_loc pk c 0)) $$ Hpay
  unfold locPay
  icases Hpay with ⟨Hp, Hr⟩
  iapply Hk $$ HO Hat Hp Hr

end Cert.MoeProof

end
-- ==== Proof.Parts.lean ====
/-
# The kernel's parts

The kernel is printed in twenty-one consecutive parts. One lemma executes each: from what the part needs to what it
leaves. This module holds parts 1 to 7, up to the barrier.
-/
module

public import proofs.«01_k».proof.Proof.Steps

@[expose] public section

set_option backward.proofsInPublic true

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part (or the whole kernel) at the launch's buffers and counters. -/
abbrev atBufs {β : Type 1} (p : (arg0 : Memref sig .tc .vmem S512x256 .bf16) → arg0.IsWhole → (arg1 : Memref sig .tc .vmem S256x64 .bf16) → arg1.IsWhole
    → (arg2 : Memref sig .tc .vmem S512x1 .i32) → arg2.IsWhole → (arg3 : Memref sig .tc .vmem S4x256x512 .bf16) → arg3.IsWhole
    → (arg4 : Memref sig .tc .vmem S32x512 .f32) → arg4.IsWhole → (arg5 : Memref sig .tc .vmem S32x512 .bf16) → arg5.IsWhole
    → (arg6 : Memref sig .tc .vmem S24x512 .bf16) → arg6.IsWhole → (arg7 : Memref sig .tc .vmem S384x512 .bf16) → arg7.IsWhole
    → (arg8 : Memref sig .tc .vmem S512x1 .i32) → arg8.IsWhole → DmaSems sig S15 → DmaSems sig S15 → DmaSems sig S_ → β) : β :=
  p (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6

/-- The barrier counter as the kernel takes it. -/
abbrev barSem : Sems sig S_ := SemArray.scalar (sig.barrier 0 rfl)

variable (pk : Dev nD → Vec F S24x512 .bf16) (K : Dev nD × (Own ⊕ Unit) → ℕ) (c : Dev nD)

/-! ## Parts 1 to 3: the signals, and the load of the routing -/

theorem part1 {Q : (Σ' (d0 : Dev nD) (v2 : BitVec 32) (v3 : Sems sig S_) (v24 : BitVec 32), BitVec 32) → sProp 𝕄} :
    iprop(records pk K ∗ sigSt c 0)
      ⊢ iprop((sigSt c 5 -∗ Q ⟨c, posW c, barSem, Scalar.addi (posW c) 6#32, 16#32⟩) -∗ Runs c (atBufs (k0_part1 (F := F))) Q) := by
  rw [k0_part1_eq_skeleton]; unfold k0_part1_skel
  simp only [semSignalWord, Prog.lift, Prog.bind_op, Prog.bind_ret, Prog.pure_eq_ret, wp_deviceId]
  iintro ⟨#HR, HS⟩ Hk
  iapply (step_signal pk K c 0 0 rfl _ (Fin.ext (k0_dev1_eq c))) $$ HR HS
  iintro HS
  iapply (step_signal pk K c 1 1 rfl _ (Fin.ext (k0_dev2_eq c))) $$ HR HS
  iintro HS
  iapply (step_signal pk K c 2 2 rfl _ (Fin.ext (k0_dev3_eq c))) $$ HR HS
  iintro HS
  iapply (step_signal pk K c 3 3 rfl _ (Fin.ext (k0_dev4_eq c))) $$ HR HS
  iintro HS
  iapply (step_signal pk K c 4 4 rfl _ (Fin.ext (k0_dev5_eq c))) $$ HR HS
  iintro HS
  iapply (runs_ret c _ Q)
  iapply Hk; iexact HS

theorem part2 (v2 v24 c16 : BitVec 32) {Q : (Σ' (v48 : BitVec 32), BitVec 32) → sProp 𝕄} :
    iprop(records pk K ∗ sigSt c 5)
      ⊢ iprop((sigSt c 11 -∗ Q ⟨Scalar.addi v2 12#32, 16#32⟩) -∗ Runs c (atBufs (k0_part2 (F := F)) c v2 barSem v24 c16) Q) := by
  rw [k0_part2_eq_skeleton]; unfold k0_part2_skel
  simp only [semSignalWord, semWaitWord, Prog.lift, Prog.bind_op, Prog.bind_ret, Prog.pure_eq_ret]
  iintro ⟨#HR, HS⟩ Hk
  iapply (step_signal pk K c 5 5 rfl _ (Fin.ext (k0_dev6_eq c))) $$ HR HS
  iintro HS
  iapply (step_signal pk K c 6 6 rfl _ (Fin.ext (k0_dev7_eq c))) $$ HR HS
  iintro HS
  iapply (step_signal pk K c 7 7 rfl _ (Fin.ext (k0_dev8_eq c))) $$ HR HS
  iintro HS
  iapply (step_signal pk K c 8 8 rfl _ (Fin.ext (k0_dev9_eq c))) $$ HR HS
  iintro HS
  iapply (step_signal pk K c 9 9 rfl _ (Fin.ext (k0_dev10_eq c))) $$ HR HS
  iintro HS
  iapply (step_signal pk K c 10 10 rfl _ (Fin.ext (k0_dev11_eq c))) $$ HR HS
  iintro HS
  iapply (runs_ret c _ Q)
  iapply Hk; iexact HS

theorem part3 (v2 v48 c16 : BitVec 32) (r : Vec F S512x1 .i32) {Q : (Σ' (v65 : IVec S512x1 32), IVec S512x1 32) → sProp 𝕄} :
    iprop(records pk K ∗ sigSt c 11 ∗ holds c cc0_stg2_0 r)
      ⊢ iprop((sigSt c 15 -∗ holds c cc0_stg2_0 r -∗ Q ⟨k0_pay1 (F := F) r, k0_pay2 (F := F) r⟩)
          -∗ Runs c (atBufs (k0_part3 (F := F)) c v2 barSem v48 c16) Q) := by
  rw [k0_part3_eq_skeleton]; unfold k0_part3_skel
  simp only [semSignalWord, semWaitWord, Prog.lift, Prog.bind_op, Prog.bind_ret, Prog.pure_eq_ret]
  iintro ⟨#HR, HS, Hr⟩ Hk
  iapply (step_signal pk K c 11 11 rfl _ (Fin.ext (k0_dev12_eq c))) $$ HR HS
  iintro HS
  iapply (step_signal pk K c 12 12 rfl _ (Fin.ext (k0_dev13_eq c))) $$ HR HS
  iintro HS
  iapply (step_signal pk K c 13 13 rfl _ (Fin.ext (k0_dev14_eq c))) $$ HR HS
  iintro HS
  iapply (step_signal pk K c 14 14 rfl _ (Fin.ext (k0_dev15_eq c))) $$ HR HS
  iintro HS
  iapply (step_load c (Memref.whole cc0_stg2_0) r _ (Memref.readAt_unit_zero (Elt F) cc0_stg2_0 zero2 _ r)) $$ Hr
  iintro Hr
  iapply (runs_ret c _ Q)
  iapply Hk $$ HS Hr

/-! ## Part 4: the ranks are stored -/

theorem part4 (v2 : BitVec 32) (v81 : IVec S512x1 32) (f : Vec F S512x1 .i32)
    {Q : (Σ' (v112 : IVec S1x32 32) (v114 : BitVec 32) (v116 : IVec S1x32 32), IVec S1x32 1) → sProp 𝕄} :
    holds c cc0_scratch3 f
      ⊢ iprop((holds c cc0_scratch3 (k0_pay3 v81) -∗ Q ⟨k0_pay4 v2, eightW, k0_pay5, k0_pay6⟩)
          -∗ Runs c (atBufs (k0_part4 (F := F)) v2 v81) Q) := by
  rw [k0_part4_eq_skeleton]; unfold k0_part4_skel
  simp only [semSignalWord, semWaitWord, Prog.lift, Prog.bind_op, Prog.bind_ret, Prog.pure_eq_ret]
  iintro H Hk
  iapply (step_load c (Memref.whole cc0_scratch3) f _ rfl) $$ H
  iintro H
  iapply (step_store c (Memref.whole cc0_scratch3) f _ _ (Memref.write_access_unit_zero_univ (Elt F) cc0_scratch3 zero2 _ f _)) $$ H
  iintro H
  iapply (runs_ret c _ Q)
  iapply Hk $$ H

/-! ## Parts 5 and 6: the four experts' rows are staged -/

/-- The staging buffer after eight rows were written from row `o`. -/
abbrev putRows (o : Nat) (inb : ∀ a, (![o, 0] : Fin 2 → Nat) a + S8x512.size a ≤ S32x512.size a) (f : Vec F S32x512 .bf16)
    (w : Vec F S8x512 .bf16) : Vec F S32x512 .bf16 :=
  (stageM.access (Rect.unit (s := S32x512) ![o, 0] S8x512.size inb) : View sig .tc _ _ _).write (Elt F) f w Finset.univ

theorem part5 (v65 v81 : IVec S512x1 32) (v112 : IVec S1x32 32) (v114 : BitVec 32) (v116 : IVec S1x32 32) (v125 : IVec S1x32 1)
    (x : Vec F S512x256 .bf16) (W : Vec F S4x256x512 .bf16) (f : Vec F S32x512 .bf16) (p0 p1 : Vec F S8x512 .bf16)
    (h0 : p0 = k0_pay8 v65 v81 v112 v114 v116 v125 x (slabV W 0)) (h1 : p1 = k0_pay9 v65 v81 v112 v114 v116 v125 x (slabV W 1))
    {Q : (Σ' (v146 : FVec F S32x256 .bf16) (v163 : FVec F S8x256 .bf16), Vec F S1x256x512 .bf16) → sProp 𝕄} :
    iprop(holds c cc0_stg0_0 x ∗ holds c cc0_stg3_0 W ∗ holds c cc0_scratch0 f)
      ⊢ iprop((holds c cc0_stg0_0 x -∗ holds c cc0_stg3_0 W
            -∗ holds c cc0_scratch0 (putRows 8 inb_S32x512_S8x512_8_0 (putRows 0 inb_S32x512_S8x512_0_0 f p0) p1)
            -∗ Q ⟨k0_pay7 v65 v81 v112 v114 v116 v125 x, k0_pay10 v65 v81 v112 v114 v116 v125 x, slabV W 2⟩)
          -∗ Runs c (atBufs (k0_part5 (F := F)) v65 v81 v112 v114 v116 v125) Q) := by
  subst h0 h1
  rw [k0_part5_eq_skeleton]; unfold k0_part5_skel
  simp only [semSignalWord, semWaitWord, Prog.lift, Prog.bind_op, Prog.bind_ret, Prog.pure_eq_ret]
  iintro ⟨Hx, HW, H⟩ Hk
  iapply (step_load c (Memref.whole cc0_stg0_0) x _ (Memref.readAt_unit_zero (Elt F) cc0_stg0_0 zero2 _ x)) $$ Hx
  iintro Hx
  iapply (step_load c (Memref.whole cc0_stg3_0) W _ (slab_read 0 inb_S4x256x512_S1x256x512_0_0_0 W)) $$ HW
  iintro HW
  iapply (step_load c (Memref.whole cc0_scratch0) _ _ rfl) $$ H
  iintro H
  iapply (step_store c (Memref.whole cc0_scratch0) _ _ _ rfl) $$ H
  iintro H
  iapply (step_load c (Memref.whole cc0_stg3_0) W _ (slab_read 1 inb_S4x256x512_S1x256x512_1_0_0 W)) $$ HW
  iintro HW
  iapply (step_load c (Memref.whole cc0_scratch0) _ _ rfl) $$ H
  iintro H
  iapply (step_store c (Memref.whole cc0_scratch0) _ _ _ rfl) $$ H
  iintro H
  iapply (step_load c (Memref.whole cc0_stg3_0) W _ (slab_read 2 inb_S4x256x512_S1x256x512_2_0_0 W)) $$ HW
  iintro HW
  iapply (runs_ret c _ Q)
  iapply Hk $$ Hx HW H

theorem part6 (v146 : FVec F S32x256 .bf16) (v163 : FVec F S8x256 .bf16) (W : Vec F S4x256x512 .bf16) (f : Vec F S32x512 .bf16)
    (p2 p3 : Vec F S8x512 .bf16) (h2 : p2 = k0_pay11 v163 (slabV W 2)) (h3 : p3 = k0_pay12 v146 (slabV W 3))
    {Q : (Σ' (v179 : IVec S24x32 32) (v180 : IVec S24x32 32) (v204 : IVec S24x32 32), IVec S24x32 32) → sProp 𝕄} :
    iprop(holds c cc0_stg3_0 W ∗ holds c cc0_scratch0 f)
      ⊢ iprop((holds c cc0_stg3_0 W -∗ holds c cc0_scratch0 (putRows 24 inb_S32x512_S8x512_24_0 (putRows 16 inb_S32x512_S8x512_16_0 f p2) p3)
            -∗ Q ⟨iota .tc S24x32 32 [0] iota_S24x32_d0_w32, iota .tc S24x32 32 [1] iota_S24x32_d1_w32, k0_pay13, k0_pay14⟩)
          -∗ Runs c (atBufs (k0_part6 (F := F)) v146 v163 (slabV W 2)) Q) := by
  subst h2 h3
  rw [k0_part6_eq_skeleton]; unfold k0_part6_skel
  simp only [semSignalWord, semWaitWord, Prog.lift, Prog.bind_op, Prog.bind_ret, Prog.pure_eq_ret]
  iintro ⟨HW, H⟩ Hk
  iapply (step_load c (Memref.whole cc0_scratch0) _ _ rfl) $$ H
  iintro H
  iapply (step_store c (Memref.whole cc0_scratch0) _ _ _ rfl) $$ H
  iintro H
  iapply (step_load c (Memref.whole cc0_stg3_0) W _ (slab_read 3 inb_S4x256x512_S1x256x512_3_0_0 W)) $$ HW
  iintro HW
  iapply (step_load c (Memref.whole cc0_scratch0) _ _ rfl) $$ H
  iintro H
  iapply (step_store c (Memref.whole cc0_scratch0) _ _ _ rfl) $$ H
  iintro H
  iapply (runs_ret c _ Q)
  iapply Hk $$ HW H

/-! ## Part 7: the rows are packed, the local copy starts, and the barrier is waited on -/

theorem part7 (v2 : BitVec 32) (v179 v180 v204 v205 : IVec S24x32 32) (s : Vec F S32x512 .bf16) (f : Vec F S24x512 .bf16)
    (g : Vec F S384x512 .bf16) (hp : k0_pay15 v179 v180 v204 v205 s = pk c) {Q : PUnit → sProp 𝕄} :
    iprop(records pk K ∗ levAts L lv ∗ holds c cc0_scratch0 s ∗ holds c cc0_scratch1 f ∗ rowsPts c c g ∗ dutyTok ER (locCell c) 0 0
        ∗ cred (tallyAt (barCell c) () 15) ∗ sigSt c 15 ∗ atPos ER (barCell c) 0 ∅ 0)
      ⊢ iprop((holds c cc0_scratch0 s -∗ (bigSep Finset.univ fun k : Fin 15 => packPts c (shr k) (pk c))
            -∗ cred (tallyAt (locCell c) () N) -∗ (∃ W, owes (c : Thread nD τ) (owed c ∅ Finset.univ) W)
            -∗ atPos ER (barCell c) 1 ∅ 0 -∗ (bigSep Finset.univ fun t : Fin 15 => barPay t c) -∗ Q ⟨⟩)
          -∗ Runs c (atBufs (k0_part7 (F := F)) c v2 barSem v179 v180 v204 v205) Q) := by
  rw [k0_part7_eq_skeleton]; unfold k0_part7_skel
  simp only [semSignalWord, semWaitWord, Prog.lift, Prog.bind_op, Prog.bind_ret, Prog.pure_eq_ret]
  iintro ⟨#HR, #Hlev, Hs, Hp, Hrow, Ht, Hc, HS, Hat⟩ Hk
  iapply (step_load c (Memref.whole cc0_scratch0) s _ (Memref.readAt_unit_zero (Elt F) cc0_scratch0 zero2 _ s)) $$ Hs
  iintro Hs
  iapply (step_load c (Memref.whole cc0_scratch1) f _ rfl) $$ Hp
  iintro Hp
  iapply (step_store c (Memref.whole cc0_scratch1) f _ _
    ((Memref.write_access_unit_zero_univ (Elt F) cc0_scratch1 zero2 _ f (k0_pay15 v179 v180 v204 v205 s)).trans hp)) $$ Hp
  iintro Hp
  ihave Hp := (Entails.of_eq (pack_shares c (pk c))) $$ Hp
  icases Hp with ⟨Hloc, Hshr⟩
  iapply (step_local pk K c g _ loc_sem) $$ [Hloc Hrow Ht]
  · isplitr; · iexact HR
    isplitl [Hloc]; · iexact Hloc
    isplitl [Hrow] <;> iassumption
  iintro Hcl
  iapply (step_barrier pk K c) $$ [Hc HS Hat]
  · isplitr; · iexact HR
    isplitr; · iexact Hlev
    isplitl [Hc]; · iexact Hc
    isplitl [HS] <;> iassumption
  iintro ⟨HO, Hat, Hpay⟩
  iapply (runs_ret c _ Q)
  iapply Hk $$ Hs Hshr Hcl HO Hat Hpay

end Cert.MoeProof

end
-- ==== Proof.Sends.lean ====
/-
# The copies

Parts 8 to 13 of the kernel: the fifteen copies to the peers start, and the selection matrix is computed.
-/
module

public import proofs.«01_k».proof.Proof.Parts

@[expose] public section

set_option backward.proofsInPublic true

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pk : Dev nD → Vec F S24x512 .bf16) (K : Dev nD × (Own ⊕ Unit) → ℕ) (c : Dev nD)

theorem part8 (v2 : BitVec 32) {Q : PUnit → sProp 𝕄} :
    iprop(records pk K ∗ sendSt pk c 0) ⊢ iprop((sendSt pk c 3 -∗ Q ⟨⟩) -∗ Runs c (atBufs (k0_part8 (F := F)) c v2) Q) := by
  rw [k0_part8_eq_skeleton]; unfold k0_part8_skel
  simp only [Prog.lift, Prog.bind_op, Prog.bind_ret, Prog.pure_eq_ret]
  iintro ⟨#HR, HS⟩ Hk
  iapply (step_send pk K c 0 0 rfl _ (Fin.ext (k0_dev16_eq c)) _ _ (send_sem 0 0 rfl inb_S15_S1_0) (recv_sem 0 0 rfl inb_S15_S1_0)) $$ HR HS
  iintro HS
  iapply (step_send pk K c 1 1 rfl _ (Fin.ext (k0_dev17_eq c)) _ _ (send_sem 1 1 rfl inb_S15_S1_1) (recv_sem 1 1 rfl inb_S15_S1_1)) $$ HR HS
  iintro HS
  iapply (step_send pk K c 2 2 rfl _ (Fin.ext (k0_dev18_eq c)) _ _ (send_sem 2 2 rfl inb_S15_S1_2) (recv_sem 2 2 rfl inb_S15_S1_2)) $$ HR HS
  iintro HS
  iapply (runs_ret c _ Q)
  iapply Hk $$ HS

theorem part9 (v2 : BitVec 32) {Q : PUnit → sProp 𝕄} :
    iprop(records pk K ∗ sendSt pk c 3) ⊢ iprop((sendSt pk c 6 -∗ Q ⟨⟩) -∗ Runs c (atBufs (k0_part9 (F := F)) c v2) Q) := by
  rw [k0_part9_eq_skeleton]; unfold k0_part9_skel
  simp only [Prog.lift, Prog.bind_op, Prog.bind_ret, Prog.pure_eq_ret]
  iintro ⟨#HR, HS⟩ Hk
  iapply (step_send pk K c 3 3 rfl _ (Fin.ext (k0_dev19_eq c)) _ _ (send_sem 3 3 rfl inb_S15_S1_3) (recv_sem 3 3 rfl inb_S15_S1_3)) $$ HR HS
  iintro HS
  iapply (step_send pk K c 4 4 rfl _ (Fin.ext (k0_dev20_eq c)) _ _ (send_sem 4 4 rfl inb_S15_S1_4) (recv_sem 4 4 rfl inb_S15_S1_4)) $$ HR HS
  iintro HS
  iapply (step_send pk K c 5 5 rfl _ (Fin.ext (k0_dev21_eq c)) _ _ (send_sem 5 5 rfl inb_S15_S1_5) (recv_sem 5 5 rfl inb_S15_S1_5)) $$ HR HS
  iintro HS
  iapply (runs_ret c _ Q)
  iapply Hk $$ HS

theorem part10 (v2 : BitVec 32) {Q : PUnit → sProp 𝕄} :
    iprop(records pk K ∗ sendSt pk c 6) ⊢ iprop((sendSt pk c 9 -∗ Q ⟨⟩) -∗ Runs c (atBufs (k0_part10 (F := F)) c v2) Q) := by
  rw [k0_part10_eq_skeleton]; unfold k0_part10_skel
  simp only [Prog.lift, Prog.bind_op, Prog.bind_ret, Prog.pure_eq_ret]
  iintro ⟨#HR, HS⟩ Hk
  iapply (step_send pk K c 6 6 rfl _ (Fin.ext (k0_dev22_eq c)) _ _ (send_sem 6 6 rfl inb_S15_S1_6) (recv_sem 6 6 rfl inb_S15_S1_6)) $$ HR HS
  iintro HS
  iapply (step_send pk K c 7 7 rfl _ (Fin.ext (k0_dev23_eq c)) _ _ (send_sem 7 7 rfl inb_S15_S1_7) (recv_sem 7 7 rfl inb_S15_S1_7)) $$ HR HS
  iintro HS
  iapply (step_send pk K c 8 8 rfl _ (Fin.ext (k0_dev24_eq c)) _ _ (send_sem 8 8 rfl inb_S15_S1_8) (recv_sem 8 8 rfl inb_S15_S1_8)) $$ HR HS
  iintro HS
  iapply (runs_ret c _ Q)
  iapply Hk $$ HS

theorem part11 (v2 : BitVec 32) {Q : PUnit → sProp 𝕄} :
    iprop(records pk K ∗ sendSt pk c 9) ⊢ iprop((sendSt pk c 12 -∗ Q ⟨⟩) -∗ Runs c (atBufs (k0_part11 (F := F)) c v2) Q) := by
  rw [k0_part11_eq_skeleton]; unfold k0_part11_skel
  simp only [Prog.lift, Prog.bind_op, Prog.bind_ret, Prog.pure_eq_ret]
  iintro ⟨#HR, HS⟩ Hk
  iapply (step_send pk K c 9 9 rfl _ (Fin.ext (k0_dev25_eq c)) _ _ (send_sem 9 9 rfl inb_S15_S1_9) (recv_sem 9 9 rfl inb_S15_S1_9)) $$ HR HS
  iintro HS
  iapply (step_send pk K c 10 10 rfl _ (Fin.ext (k0_dev26_eq c)) _ _ (send_sem 10 10 rfl inb_S15_S1_10) (recv_sem 10 10 rfl inb_S15_S1_10)) $$ HR HS
  iintro HS
  iapply (step_send pk K c 11 11 rfl _ (Fin.ext (k0_dev27_eq c)) _ _ (send_sem 11 11 rfl inb_S15_S1_11) (recv_sem 11 11 rfl inb_S15_S1_11)) $$ HR HS
  iintro HS
  iapply (runs_ret c _ Q)
  iapply Hk $$ HS

/-- Part 12 also loads the device's own ranks and experts. -/
theorem part12 (v2 : BitVec 32) (k r : Vec F S512x1 .i32) {Q : (Σ' (v390 : Vec F S32x1 .i32) (v393 : IVec S32x1 32), IVec S32x384 32) → sProp 𝕄} :
    iprop(records pk K ∗ sendSt pk c 12 ∗ holds c cc0_scratch3 k ∗ holds c cc0_stg2_0 r)
      ⊢ iprop((sendSt pk c 15 -∗ holds c cc0_scratch3 k -∗ holds c cc0_stg2_0 r
            -∗ Q ⟨ownRows (F := F) c k, k0_pay16 (F := F) (ownRows (F := F) c r), iota .tc S32x384 32 [1] iota_S32x384_d1_w32⟩)
          -∗ Runs c (atBufs (k0_part12 (F := F)) c v2) Q) := by
  rw [k0_part12_eq_skeleton]; unfold k0_part12_skel
  simp only [Prog.lift, Prog.bind_op, Prog.bind_ret, Prog.pure_eq_ret]
  iintro ⟨#HR, HS, Hrk, Hr⟩ Hk
  iapply (step_send pk K c 12 12 rfl _ (Fin.ext (k0_dev28_eq c)) _ _ (send_sem 12 12 rfl inb_S15_S1_12) (recv_sem 12 12 rfl inb_S15_S1_12)) $$ HR HS
  iintro HS
  iapply (step_send pk K c 13 13 rfl _ (Fin.ext (k0_dev29_eq c)) _ _ (send_sem 13 13 rfl inb_S15_S1_13) (recv_sem 13 13 rfl inb_S15_S1_13)) $$ HR HS
  iintro HS
  iapply (step_send pk K c 14 14 rfl _ (Fin.ext (k0_dev30_eq c)) _ _ (send_sem 14 14 rfl inb_S15_S1_14) (recv_sem 14 14 rfl inb_S15_S1_14)) $$ HR HS
  iintro HS
  iapply (step_load c (Memref.whole cc0_scratch3) k _ (own_rank c k)) $$ Hrk
  iintro Hrk
  iapply (step_load c (Memref.whole cc0_stg2_0) r _ (own_route c r)) $$ Hr
  iintro Hr
  iapply (runs_ret c _ Q)
  iapply Hk $$ HS Hrk Hr

theorem part13 (v390 : Vec F S32x1 .i32) (v393 : IVec S32x1 32) (v394 : IVec S32x384 32) {Q : FVec F S32x384 .f32 → sProp 𝕄} :
    Q (k0_pay17 v390 v393 v394) ⊢ Runs c (atBufs (k0_part13 (F := F)) v390 v393 v394) Q := by
  rw [k0_part13_eq_skeleton]; unfold k0_part13_skel
  simp only [Prog.lift, Prog.bind_op, Prog.bind_ret, Prog.pure_eq_ret]
  exact runs_ret c _ Q

end Cert.MoeProof

end
-- ==== Proof.Waits.lean ====
/-
# The waits

Parts 14 to 21 of the kernel: the local copy and the fifteen copies from the peers are waited for, the result is
computed and stored, and the fifteen copies to the peers are waited for.
-/
module

public import proofs.«01_k».proof.Proof.Parts

@[expose] public section

set_option backward.proofsInPublic true

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pk : Dev nD → Vec F S24x512 .bf16) (K : Dev nD × (Own ⊕ Unit) → ℕ) (c : Dev nD)

theorem part14 (v2 : BitVec 32) (v441 : FVec F S32x384 .f32) {Q : FVec F S32x384 .bf16 → sProp 𝕄} :
    iprop(records pk K ∗ (∃ W, owes (c : Thread nD τ) 0 W) ∗ cred (tallyAt (locCell c) () N) ∗ atPos ER (locCell c) 0 ∅ 0
        ∗ (bigSep Finset.univ fun s : Fin 15 => cred (tallyAt (recvCell s c) () N)) ∗ bigSep Finset.univ fun s : Fin 15 => atPos ER (recvCell s c) 0 ∅ 0)
      ⊢ iprop((recvSt pk c 2 -∗ atPos ER (locCell c) 1 ∅ 0 -∗ packPts c shrLoc (pk c) -∗ rowsPts c c (gathered pk) -∗ Q (k0_pay18 v441))
          -∗ Runs c (atBufs (k0_part14 (F := F)) c v2 v441) Q) := by
  rw [k0_part14_eq_skeleton]; unfold k0_part14_skel
  simp only [Prog.lift, Prog.bind_op, Prog.bind_ret, Prog.pure_eq_ret]
  iintro ⟨#HR, HO, Hc, Hat, H1, H2⟩ Hk
  iapply (step_loc pk K c _ loc_sem (credit_rows _)) $$ HR HO Hc Hat
  iintro HO Hat Hp Hrow
  ihave HS := (recv_start pk c) $$ [HO H1 H2]
  · isplitl [HO]; · iexact HO
    isplitl [H1] <;> iassumption
  iapply (step_recv pk K c 0 0 rfl _ (recv_sem 0 0 rfl inb_S15_S1_0) (credit_rows _)) $$ HR HS
  iintro HS
  iapply (step_recv pk K c 1 1 rfl _ (recv_sem 1 1 rfl inb_S15_S1_1) (credit_rows _)) $$ HR HS
  iintro HS
  iapply (runs_ret c _ Q)
  iapply Hk $$ HS Hat Hp Hrow

theorem part15 (v2 : BitVec 32) {Q : BitVec 32 → sProp 𝕄} :
    iprop(records pk K ∗ recvSt pk c 2) ⊢ iprop((recvSt pk c 5 -∗ Q (Scalar.muli v2 1#32)) -∗ Runs c (atBufs (k0_part15 (F := F)) c v2) Q) := by
  rw [k0_part15_eq_skeleton]; unfold k0_part15_skel
  simp only [Prog.lift, Prog.bind_op, Prog.bind_ret, Prog.pure_eq_ret]
  iintro ⟨#HR, HS⟩ Hk
  iapply (step_recv pk K c 2 2 rfl _ (recv_sem 2 2 rfl inb_S15_S1_2) (credit_rows _)) $$ HR HS
  iintro HS
  iapply (step_recv pk K c 3 3 rfl _ (recv_sem 3 3 rfl inb_S15_S1_3) (credit_rows _)) $$ HR HS
  iintro HS
  iapply (step_recv pk K c 4 4 rfl _ (recv_sem 4 4 rfl inb_S15_S1_4) (credit_rows _)) $$ HR HS
  iintro HS
  iapply (runs_ret c _ Q)
  iapply Hk $$ HS

theorem part16 (v2 v498 : BitVec 32) {Q : PUnit → sProp 𝕄} :
    iprop(records pk K ∗ recvSt pk c 5) ⊢ iprop((recvSt pk c 8 -∗ Q ⟨⟩) -∗ Runs c (atBufs (k0_part16 (F := F)) c v2 v498) Q) := by
  rw [k0_part16_eq_skeleton]; unfold k0_part16_skel
  simp only [Prog.lift, Prog.bind_op, Prog.bind_ret, Prog.pure_eq_ret]
  iintro ⟨#HR, HS⟩ Hk
  iapply (step_recv pk K c 5 5 rfl _ (recv_sem 5 5 rfl inb_S15_S1_5) (credit_rows _)) $$ HR HS
  iintro HS
  iapply (step_recv pk K c 6 6 rfl _ (recv_sem 6 6 rfl inb_S15_S1_6) (credit_rows _)) $$ HR HS
  iintro HS
  iapply (step_recv pk K c 7 7 rfl _ (recv_sem 7 7 rfl inb_S15_S1_7) (credit_rows _)) $$ HR HS
  iintro HS
  iapply (runs_ret c _ Q)
  iapply Hk $$ HS

theorem part17 (v2 : BitVec 32) {Q : (Σ' (v555 : BitVec 32), BitVec 32) → sProp 𝕄} :
    iprop(records pk K ∗ recvSt pk c 8)
      ⊢ iprop((recvSt pk c 11 -∗ Q ⟨Scalar.remsi (Scalar.addi v2 4#32) 16#32, 24#32⟩) -∗ Runs c (atBufs (k0_part17 (F := F)) c v2) Q) := by
  rw [k0_part17_eq_skeleton]; unfold k0_part17_skel
  simp only [Prog.lift, Prog.bind_op, Prog.bind_ret, Prog.pure_eq_ret]
  iintro ⟨#HR, HS⟩ Hk
  iapply (step_recv pk K c 8 8 rfl _ (recv_sem 8 8 rfl inb_S15_S1_8) (credit_rows _)) $$ HR HS
  iintro HS
  iapply (step_recv pk K c 9 9 rfl _ (recv_sem 9 9 rfl inb_S15_S1_9) (credit_rows _)) $$ HR HS
  iintro HS
  iapply (step_recv pk K c 10 10 rfl _ (recv_sem 10 10 rfl inb_S15_S1_10) (credit_rows _)) $$ HR HS
  iintro HS
  iapply (runs_ret c _ Q)
  iapply Hk $$ HS

theorem part18 (v2 v555 c24 : BitVec 32) {Q : BitVec 32 → sProp 𝕄} :
    iprop(records pk K ∗ recvSt pk c 11)
      ⊢ iprop((recvSt pk c 14 -∗ Q (Scalar.addi v2 1#32)) -∗ Runs c (atBufs (k0_part18 (F := F)) c v2 v555 c24) Q) := by
  rw [k0_part18_eq_skeleton]; unfold k0_part18_skel
  simp only [Prog.lift, Prog.bind_op, Prog.bind_ret, Prog.pure_eq_ret]
  iintro ⟨#HR, HS⟩ Hk
  iapply (step_recv pk K c 11 11 rfl _ (recv_sem 11 11 rfl inb_S15_S1_11) (credit_rows _)) $$ HR HS
  iintro HS
  iapply (step_recv pk K c 12 12 rfl _ (recv_sem 12 12 rfl inb_S15_S1_12) (credit_rows _)) $$ HR HS
  iintro HS
  iapply (step_recv pk K c 13 13 rfl _ (recv_sem 13 13 rfl inb_S15_S1_13) (credit_rows _)) $$ HR HS
  iintro HS
  iapply (runs_ret c _ Q)
  iapply Hk $$ HS

/-- Part 19: with the last copy landed the receive buffer is whole; the result is stored. -/
theorem part19 (v2 v584 : BitVec 32) (v442 : FVec F S32x384 .bf16) (f : Vec F S32x512 .f32) {Q : PUnit → sProp 𝕄} :
    iprop(records pk K ∗ recvSt pk c 14 ∗ rowsPts c c (gathered pk) ∗ holds c cc0_stg4_0 f
        ∗ (bigSep Finset.univ fun s : Fin 15 => cred (tallyAt (sendCell s c) () N)) ∗ bigSep Finset.univ fun s : Fin 15 => atPos ER (sendCell s c) 0 ∅ 0)
      ⊢ iprop((backSt pk c 2 -∗ (bigSep Finset.univ fun s : Fin 15 => atPos ER (recvCell s c) 1 ∅ 0) -∗ holds c cc0_scratch2 (gathered pk)
            -∗ holds c cc0_stg4_0 (k0_pay19 v442 (gathered pk)) -∗ Q ⟨⟩)
          -∗ Runs c (atBufs (k0_part19 (F := F)) c v2 v442 v584) Q) := by
  rw [k0_part19_eq_skeleton]; unfold k0_part19_skel
  simp only [Prog.lift, Prog.bind_op, Prog.bind_ret, Prog.pure_eq_ret]
  iintro ⟨#HR, HS, Hrow, Ho, H1, H2⟩ Hk
  iapply (step_recv pk K c 14 14 rfl _ (recv_sem 14 14 rfl inb_S15_S1_14) (credit_rows _)) $$ HR HS
  iintro HS
  ihave HS := (recv_end pk c) $$ HS
  icases HS with ⟨HO, Hat, Hrows⟩
  ihave Hrecv := (Entails.of_eq (recv_join pk c).symm) $$ [Hrow Hrows]
  · isplitl [Hrow] <;> iassumption
  iapply (step_load c (Memref.whole cc0_scratch2) (gathered pk) _ (Memref.readAt_unit_zero (Elt F) cc0_scratch2 zero2 _ (gathered pk))) $$ Hrecv
  iintro Hrecv
  iapply (step_load c (Memref.whole cc0_stg4_0) f _ rfl) $$ Ho
  iintro Ho
  iapply (step_store c (Memref.whole cc0_stg4_0) f _ _ (Memref.write_access_unit_zero_univ (Elt F) cc0_stg4_0 zero2 _ f _)) $$ Ho
  iintro Ho
  ihave HS := (back_start pk c) $$ [HO H1 H2]
  · isplitl [HO]; · iexact HO
    isplitl [H1] <;> iassumption
  iapply (step_back pk K c 0 0 rfl _ (send_sem 0 0 rfl inb_S15_S1_0) (credit_rows _)) $$ HR HS
  iintro HS
  iapply (step_back pk K c 1 1 rfl _ (send_sem 1 1 rfl inb_S15_S1_1) (credit_rows _)) $$ HR HS
  iintro HS
  iapply (runs_ret c _ Q)
  iapply Hk $$ HS Hat Hrecv Ho

theorem part20 {Q : PUnit → sProp 𝕄} :
    iprop(records pk K ∗ backSt pk c 2) ⊢ iprop((backSt pk c 8 -∗ Q ⟨⟩) -∗ Runs c (atBufs (k0_part20 (F := F)) c) Q) := by
  rw [k0_part20_eq_skeleton]; unfold k0_part20_skel
  simp only [Prog.lift, Prog.bind_op, Prog.bind_ret, Prog.pure_eq_ret]
  iintro ⟨#HR, HS⟩ Hk
  iapply (step_back pk K c 2 2 rfl _ (send_sem 2 2 rfl inb_S15_S1_2) (credit_rows _)) $$ HR HS
  iintro HS
  iapply (step_back pk K c 3 3 rfl _ (send_sem 3 3 rfl inb_S15_S1_3) (credit_rows _)) $$ HR HS
  iintro HS
  iapply (step_back pk K c 4 4 rfl _ (send_sem 4 4 rfl inb_S15_S1_4) (credit_rows _)) $$ HR HS
  iintro HS
  iapply (step_back pk K c 5 5 rfl _ (send_sem 5 5 rfl inb_S15_S1_5) (credit_rows _)) $$ HR HS
  iintro HS
  iapply (step_back pk K c 6 6 rfl _ (send_sem 6 6 rfl inb_S15_S1_6) (credit_rows _)) $$ HR HS
  iintro HS
  iapply (step_back pk K c 7 7 rfl _ (send_sem 7 7 rfl inb_S15_S1_7) (credit_rows _)) $$ HR HS
  iintro HS
  iapply (runs_ret c _ Q)
  iapply Hk $$ HS

theorem part21 {Q : PUnit → sProp 𝕄} :
    iprop(records pk K ∗ backSt pk c 8) ⊢ iprop((backSt pk c 13 -∗ Q ⟨⟩) -∗ Runs c (atBufs (k0_part21 (F := F)) c) Q) := by
  rw [k0_part21_eq_skeleton]; unfold k0_part21_skel
  simp only [Prog.lift, Prog.bind_op, Prog.bind_ret, Prog.pure_eq_ret]
  iintro ⟨#HR, HS⟩ Hk
  iapply (step_back pk K c 8 8 rfl _ (send_sem 8 8 rfl inb_S15_S1_8) (credit_rows _)) $$ HR HS
  iintro HS
  iapply (step_back pk K c 9 9 rfl _ (send_sem 9 9 rfl inb_S15_S1_9) (credit_rows _)) $$ HR HS
  iintro HS
  iapply (step_back pk K c 10 10 rfl _ (send_sem 10 10 rfl inb_S15_S1_10) (credit_rows _)) $$ HR HS
  iintro HS
  iapply (step_back pk K c 11 11 rfl _ (send_sem 11 11 rfl inb_S15_S1_11) (credit_rows _)) $$ HR HS
  iintro HS
  iapply (step_back pk K c 12 12 rfl _ (send_sem 12 12 rfl inb_S15_S1_12) (credit_rows _)) $$ HR HS
  iintro HS
  iapply (runs_ret c _ Q)
  iapply Hk $$ HS

end Cert.MoeProof

end
-- ==== Proof.Body.lean ====
/-
# The kernel on one device

The parts in a row: from what the launch gives a device to what the device leaves. At the end every counter of the
device is closed at zero.
-/
module

public import proofs.«01_k».proof.Proof.Sends
public import proofs.«01_k».proof.Proof.Waits

@[expose] public section

set_option backward.proofsInPublic true

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pk : Dev nD → Vec F S24x512 .bf16) (K : Dev nD × (Own ⊕ Unit) → ℕ) (c : Dev nD)

omit [FloatOps F] in
/-- A family over a device's counters: sends, receives, the local copy, the barrier. -/
theorem bigSep_counters (Φ : Own ⊕ Unit → sProp 𝕄) :
    bigSep Finset.univ Φ = iprop(((bigSep Finset.univ fun k : Fin 15 => Φ (.inl (.inl k)))
      ∗ (bigSep Finset.univ fun k : Fin 15 => Φ (.inl (.inr (.inl k)))) ∗ Φ (.inl (.inr (.inr ())))) ∗ Φ (.inr ())) := by
  have hu : (Finset.univ : Finset Unit) = {()} := rfl
  rw [bigSep_univ_sum, bigSep_univ_sum, bigSep_univ_sum, hu, bigSep_singleton, bigSep_singleton]
  rfl

/-- What only device `c` holds: the positions on its counters and the duties it pays. -/
def linear (c : Dev nD) : sProp 𝕄 :=
  iprop((bigSep Finset.univ fun k : Own ⊕ Unit => atPos ER (kcell (c, k)) 0 ∅ 0)
    ∗ (bigSep Finset.univ fun s : Fin 15 => dutyTok ER (barCell (peer s c)) 0 s)
    ∗ (bigSep Finset.univ fun s : Fin 15 => dutyTok ER (recvCell s (peer s c)) 0 0)
    ∗ (bigSep Finset.univ fun s : Fin 15 => dutyTok ER (sendCell s c) 0 0)
    ∗ dutyTok ER (locCell c) 0 0)

/-- Before the first signal: the duties to signal and the peers' rows of the device's receive buffer. -/
theorem sig_start (f : Vec F S384x512 .bf16) :
    iprop((∃ W, owes (c : Thread nD τ) (owed c Finset.univ Finset.univ) W) ∗ (bigSep Finset.univ fun s : Fin 15 => dutyTok ER (barCell (peer s c)) 0 s)
        ∗ bigSep Finset.univ fun s : Fin 15 => rowsPts (peer s c) c f) ⊢ sigSt c 0 := by
  unfold sigSt
  rw [rest_zero, bigSep_sep']
  iintro ⟨HO, H1, H2⟩
  isplitl [HO]; · iexact HO
  isplitl [H1]; · iexact H1
  have h1 (s : Fin 15) : (rowsPts (peer s c) c f : sProp 𝕄) ⊢ iprop(∃ f, rowsPts (peer s c) c f) := by iintro H; iexists f; iexact H
  have h : (bigSep Finset.univ fun s : Fin 15 => (rowsPts (peer s c) c f : sProp 𝕄))
      ⊢ bigSep Finset.univ fun s : Fin 15 => iprop(∃ f, rowsPts (peer s c) c f) := bigSep_mono fun s _ => h1 s
  iapply h; iexact H2

omit [FloatOps F] in
/-- A known fact may be used for every member of a family. -/
theorem bigSep_using {I : Type} (S : Finset I) (R : sProp 𝕄) [BI.Persistent R] {Φ Ψ : I → sProp 𝕄}
    (h : ∀ i, iprop(R ∗ Φ i) ⊢ Ψ i) : iprop(R ∗ bigSep S Φ) ⊢ bigSep S Ψ := by
  classical
  have hj : bigSep S (fun i => iprop(R ∗ Φ i)) ⊢ bigSep S Ψ := bigSep_mono fun i _ => h i
  have hR : R ⊢ bigSep S (fun _ => R) := BI.bigSep_of_persistent S R
  rw [bigSep_sep'] at hj
  iintro ⟨HR, H⟩
  iapply hj
  isplitl [HR]; · iapply hR; iexact HR
  iexact H

/-- Closing a device's counters, each past its one round. -/
theorem close_counters : iprop(records pk K ∗ bigSep Finset.univ fun k : Own ⊕ Unit => atPos ER (kcell (c, k)) 1 ∅ 0)
    ⊢ |={Set.univ}=> (bigSep Finset.univ fun k : Own ⊕ Unit => semVal (kcell (c, k)) 0 : sProp 𝕄) := by
  have h (k : Own ⊕ Unit) : iprop(records pk K ∗ atPos ER (kcell (c, k)) 1 ∅ 0) ⊢ (|={Set.univ}=> semVal (kcell (c, k)) 0 : sProp 𝕄) := by
    iintro ⟨#HR, H⟩
    iapply (Rounds.cell_close ER (sched pk) (κ := K (c, k)) (Set.mem_univ _) (fun h => h) (R := 0 + 1) (duties_later pk (kcell (c, k))))
    isplitr; · iapply (inv_at pk K (c, k)); iexact HR
    iexact H
  exact (bigSep_using Finset.univ (records pk K) h).trans (bigSep_fupd _ _)

/-- The whole kernel on device `c`. -/
theorem body_run (x : Vec F S512x256 .bf16) (r : Vec F S512x1 .i32) (W : Vec F S4x256x512 .bf16) (fo : Vec F S32x512 .f32)
    (hp : packV c r x W = pk c) {Q : PUnit → sProp 𝕄} :
    iprop(records pk K ∗ levAts L lv ∗ linear c ∗ (∃ W, owes (c : Thread nD τ) (owed c Finset.univ Finset.univ) W)
        ∗ cred (tallyAt (barCell c) () 15) ∗ (bigSep Finset.univ fun s : Fin 15 => cred (tallyAt (recvCell s c) () N))
        ∗ holds c cc0_stg0_0 x ∗ holds c cc0_stg2_0 r ∗ holds c cc0_stg3_0 W ∗ holds c cc0_stg4_0 fo
        ∗ (∃ f, holds c cc0_scratch0 f) ∗ (∃ f, holds c cc0_scratch1 f) ∗ (∃ f, holds c cc0_scratch2 f) ∗ (∃ f, holds c cc0_scratch3 f))
      ⊢ iprop(((∃ W, owes (c : Thread nD τ) 0 W) -∗ (bigSep Finset.univ fun k : Own ⊕ Unit => semVal (kcell (c, k)) 0)
            -∗ holds c cc0_stg0_0 x -∗ holds c cc0_stg2_0 r -∗ holds c cc0_stg3_0 W -∗ holds c cc0_stg4_0 (outV c r (gathered pk))
            -∗ (∃ f, holds c cc0_scratch0 f) -∗ (∃ f, holds c cc0_scratch1 f) -∗ (∃ f, holds c cc0_scratch2 f) -∗ (∃ f, holds c cc0_scratch3 f)
            -∗ Q ⟨⟩)
          -∗ Runs c (atBufs (cc0_body (F := F))) Q) := by
  rw [cc0_body_eq_skeleton]; unfold cc0_body_skel linear
  rw [bigSep_counters]
  iintro ⟨#HR, #Hlev, ⟨⟨⟨HatS, HatR, HatL⟩, HatB⟩, HtB, HtR, HtS, HtL⟩, HO, HcB, HcR, Hx, Hr, HW, Ho, ⟨%f0, H0⟩, ⟨%f1, H1⟩, ⟨%f2, H2⟩, ⟨%f3, H3⟩⟩ Hk
  ihave H2 := (Entails.of_eq (recv_split c f2)) $$ H2
  icases H2 with ⟨Hown, Hpeers⟩
  ihave HS := (sig_start c f2) $$ [HO HtB Hpeers]
  · isplitl [HO]; · iexact HO
    isplitl [HtB] <;> iassumption
  iapply (runs_bind c _ _ Q)
  iapply (part1 pk K c) $$ [HS]
  · isplitr; · iexact HR
    iexact HS
  iintro HS
  iapply (runs_bind c _ _ Q)
  iapply (part2 pk K c) $$ [HS]
  · isplitr; · iexact HR
    iexact HS
  iintro HS
  iapply (runs_bind c _ _ Q)
  iapply (part3 pk K c _ _ _ r) $$ [HS Hr]
  · isplitr; · iexact HR
    isplitl [HS] <;> iassumption
  iintro HS Hr
  iapply (runs_bind c _ _ Q)
  iapply (part4 c _ _ f3) $$ H3
  iintro H3
  iapply (runs_bind c _ _ Q)
  iapply (part5 c _ _ _ _ _ _ x W f0 (blockV c r x W 0) (blockV c r x W 1) rfl rfl) $$ [Hx HW H0]
  · isplitl [Hx]; · iexact Hx
    isplitl [HW] <;> iassumption
  iintro Hx HW H0
  iapply (runs_bind c _ _ Q)
  iapply (part6 c _ _ W _ (blockV c r x W 2) (blockV c r x W 3) rfl rfl) $$ [HW H0]
  · isplitl [HW] <;> iassumption
  iintro HW H0
  ihave H0 := (Entails.of_eq (congrArg (fun v => holds c cc0_scratch0 v) (stage_writes f0 (blockV c r x W)))) $$ H0
  iapply (runs_bind c _ _ Q)
  iapply (part7 pk K c _ _ _ _ _ (stack (blockV c r x W)) f1 f2 hp) $$ [H0 H1 Hown HtL HcB HS HatB]
  · isplitr; · iexact HR
    isplitr; · iexact Hlev
    isplitl [H0]; · iexact H0
    isplitl [H1]; · iexact H1
    isplitl [Hown]; · iexact Hown
    isplitl [HtL]; · iexact HtL
    isplitl [HcB]; · iexact HcB
    isplitl [HS] <;> iassumption
  iintro H0 Hshr HcL HO HatB Hpay
  ihave HS := (send_start pk c) $$ [HO Hshr HtS HtR Hpay]
  · isplitl [HO]; · iexact HO
    isplitl [Hshr]; · iexact Hshr
    isplitl [HtS]; · iexact HtS
    isplitl [HtR] <;> iassumption
  iapply (runs_bind c _ _ Q)
  iapply (part8 pk K c) $$ [HS]
  · isplitr; · iexact HR
    iexact HS
  iintro HS
  iapply (runs_bind c _ _ Q)
  iapply (part9 pk K c) $$ [HS]
  · isplitr; · iexact HR
    iexact HS
  iintro HS
  iapply (runs_bind c _ _ Q)
  iapply (part10 pk K c) $$ [HS]
  · isplitr; · iexact HR
    iexact HS
  iintro HS
  iapply (runs_bind c _ _ Q)
  iapply (part11 pk K c) $$ [HS]
  · isplitr; · iexact HR
    iexact HS
  iintro HS
  iapply (runs_bind c _ _ Q)
  iapply (part12 pk K c _ _ r) $$ [HS H3 Hr]
  · isplitr; · iexact HR
    isplitl [HS]; · iexact HS
    isplitl [H3] <;> iassumption
  iintro HS H3 Hr
  iapply (runs_bind c _ _ Q)
  iapply (part13 c)
  ihave HS := (send_end pk c) $$ HS
  icases HS with ⟨HO, HcS⟩
  iapply (runs_bind c _ _ Q)
  iapply (part14 pk K c) $$ [HO HcL HatL HcR HatR]
  · isplitr; · iexact HR
    isplitl [HO]; · iexact HO
    isplitl [HcL]; · iexact HcL
    isplitl [HatL]; · iexact HatL
    isplitl [HcR] <;> iassumption
  iintro HS HatL Hploc Hown
  iapply (runs_bind c _ _ Q)
  iapply (part15 pk K c) $$ [HS]
  · isplitr; · iexact HR
    iexact HS
  iintro HS
  iapply (runs_bind c _ _ Q)
  iapply (part16 pk K c) $$ [HS]
  · isplitr; · iexact HR
    iexact HS
  iintro HS
  iapply (runs_bind c _ _ Q)
  iapply (part17 pk K c) $$ [HS]
  · isplitr; · iexact HR
    iexact HS
  iintro HS
  iapply (runs_bind c _ _ Q)
  iapply (part18 pk K c) $$ [HS]
  · isplitr; · iexact HR
    iexact HS
  iintro HS
  iapply (runs_bind c _ _ Q)
  iapply (part19 pk K c _ _ _ fo) $$ [HS Hown Ho HcS HatS]
  · isplitr; · iexact HR
    isplitl [HS]; · iexact HS
    isplitl [Hown]; · iexact Hown
    isplitl [Ho]; · iexact Ho
    isplitl [HcS] <;> iassumption
  iintro HS HatR H2 Ho
  iapply (runs_bind c _ _ Q)
  iapply (part20 pk K c) $$ [HS]
  · isplitr; · iexact HR
    iexact HS
  iintro HS
  iapply (runs_bind c _ _ Q)
  iapply (part21 pk K c) $$ [HS]
  · isplitr; · iexact HR
    iexact HS
  iintro HS
  simp only [Prog.lift, Prog.bind_op, Prog.bind_ret, Prog.pure_eq_ret]
  iapply (step_back pk K c 13 13 rfl _ (send_sem 13 13 rfl inb_S15_S1_13) (credit_rows _)) $$ HR HS
  iintro HS
  iapply (step_back pk K c 14 14 rfl _ (send_sem 14 14 rfl inb_S15_S1_14) (credit_rows _)) $$ HR HS
  iintro HS
  ihave HS := (back_end pk c) $$ HS
  icases HS with ⟨HO, HatS, Hshr⟩
  ihave H1 := (Entails.of_eq (pack_shares c (pk c)).symm) $$ [Hploc Hshr]
  · isplitl [Hploc] <;> iassumption
  iapply (runs_fupd c _ Q)
  ihave Hat := (Entails.of_eq (bigSep_counters (fun k => (atPos ER (kcell (c, k)) 1 ∅ 0 : sProp 𝕄))).symm) $$ [HatS HatR HatL HatB]
  · isplitl [HatS HatR HatL]
    · isplitl [HatS]; · iexact HatS
      isplitl [HatR] <;> iassumption
    iexact HatB
  imod (close_counters pk K c) $$ [Hat] with Hsem
  · isplitr; · iexact HR
    iexact Hat
  imodintro
  ihave Ho := (Entails.of_eq (show holds c cc0_stg4_0 (k0_pay19 (k0_pay18 (k0_pay17 (F := F) (ownRows (F := F) c (k0_pay3 (k0_pay2 (F := F) r)))
    (k0_pay16 (F := F) (ownRows (F := F) c r)) (iota .tc S32x384 32 [1] iota_S32x384_d1_w32))) (gathered pk))
      = (holds c cc0_stg4_0 (outV c r (gathered pk)) : sProp 𝕄) from rfl)) $$ Ho
  iapply Hk $$ HO Hsem Hx Hr HW Ho [H0] [H1] [H2] [H3]
  · iexists _; iexact H0
  · iexists _; iexact H1
  · iexists _; iexact H2
  · iexists _; iexact H3

end Cert.MoeProof

end
-- ==== Proof.Deal.lean ====
/-
# Dealing out the launch's tokens and credits

Every device starts with the duties on its own counters and with what the others owe them. Here the duties go round
the circle to the devices that pay them, the counters' invariants are set up for all devices at once, and the credits
of the launch are counted.
-/
module

public import proofs.«01_k».proof.Proof.Body

@[expose] public section

set_option backward.proofsInPublic true

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pk : Dev nD → Vec F S24x512 .bf16)

/-! ## The counters and the duties, listed -/

/-- A device's own counters are its own and no two share a name. -/
theorem own_facts : Pipeline.OwnSemFacts cfg0.spec osem := by decide

theorem csem_injective : Function.Injective csem := by decide

theorem kcell_injective : Function.Injective (kcell : Dev nD × (Own ⊕ Unit) → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- All counters of all devices. -/
def cells : Finset (GSem nD τ sig) := Finset.univ.map ⟨kcell, kcell_injective⟩

/-- A duty on a device's counters: one of the barrier's fifteen, or the one of a transfer counter. -/
abbrev dutyOf (cj : Dev nD × (Fin 15 ⊕ Own)) : GSem nD τ sig × ℕ × Fin 15 :=
  match cj.2 with
  | .inl d => (barCell cj.1, 0, d)
  | .inr o => (kcell (cj.1, .inl o), 0, 0)

theorem dutyOf_injective : Function.Injective dutyOf := by
  rintro ⟨c, j⟩ ⟨c', j'⟩ h
  have hc : Function.Injective osem := own_facts.inj
  rcases j with d | o <;> rcases j' with d' | o'
  · have h1 : c = c' := congrArg (fun x : GSem nD τ sig × ℕ × Fin 15 => x.1.1.1) h
    have h2 : d = d' := congrArg (fun x : GSem nD τ sig × ℕ × Fin 15 => x.2.2) h
    rw [h1, h2]
  · exact absurd (congrArg (fun x : GSem nD τ sig × ℕ × Fin 15 => x.1.2) h) ((by decide : ∀ o : Own, (SemLoc.reg barS : SemLoc sig) ≠ osem o) o')
  · exact absurd (congrArg (fun x : GSem nD τ sig × ℕ × Fin 15 => x.1.2) h).symm ((by decide : ∀ o : Own, (SemLoc.reg barS : SemLoc sig) ≠ osem o) o)
  · have h1 : c = c' := congrArg (fun x : GSem nD τ sig × ℕ × Fin 15 => x.1.1.1) h
    have h2 : o = o' := hc (congrArg (fun x : GSem nD τ sig × ℕ × Fin 15 => x.1.2) h)
    rw [h1, h2]

/-- All duties of all devices' counters. -/
def duties : Finset (GSem nD τ sig × ℕ × Fin 15) := Finset.univ.map ⟨dutyOf, dutyOf_injective⟩

/-- The launch's ghost element: the pipeline's part and the protocol's. -/
def u₀ : UU :=
  (initOf (Pipeline.cells cfgs cellOf_inj) (Pipeline.launchToks cfgs cellOf_inj), initOf cells duties)

/-- The duties on device `c`'s own counters. -/
def toks (c : Dev nD) : sProp 𝕄 :=
  iprop((bigSep Finset.univ fun d : Fin 15 => dutyTok ER (barCell c) 0 d)
    ∗ (bigSep Finset.univ fun o : Own => dutyTok ER (kcell (c, .inl o)) 0 0))

/-- The duties device `c` pays. -/
def payToks (c : Dev nD) : sProp 𝕄 :=
  iprop((bigSep Finset.univ fun s : Fin 15 => dutyTok ER (barCell (peer s c)) 0 s)
    ∗ (bigSep Finset.univ fun s : Fin 15 => dutyTok ER (recvCell s (peer s c)) 0 0)
    ∗ (bigSep Finset.univ fun s : Fin 15 => dutyTok ER (sendCell s c) 0 0)
    ∗ dutyTok ER (locCell c) 0 0)

/-- What the launch deals device `c`. -/
def dealt (c : Dev nD) : sProp 𝕄 :=
  iprop((bigSep Finset.univ fun k : Own ⊕ Unit => roundState ER (sched pk) (kcell (c, k)) 0)
    ∗ (bigSep Finset.univ fun k : Own ⊕ Unit => iprop(atPos ER (kcell (c, k)) 0 ∅ 0 ∗ reached ER (kcell (c, k)) 0)) ∗ toks c)

/-- What device `c` starts from once the invariants stand. -/
def ready (c : Dev nD) : sProp 𝕄 := iprop(∃ K, records pk K ∗ linear c)

omit [FloatOps F] in
/-- The protocol's part of the launch element is what is dealt. -/
theorem fund_cells : BI.own (ER (initOf cells duties)) ⊢ (|==> bigSep Finset.univ (dealt pk) : sProp 𝕄) := by
  have hX (Φ : GSem nD τ sig → sProp 𝕄) : bigSep cells Φ = bigSep Finset.univ fun c : Dev nD => bigSep Finset.univ fun k : Own ⊕ Unit => Φ (kcell (c, k)) := by
    unfold cells; rw [bigSep_map, bigSep_univ_prod]; rfl
  have hT : bigSep duties (fun x => (dutyTok ER x.1 x.2.1 x.2.2 : sProp 𝕄)) = bigSep Finset.univ fun c : Dev nD => toks c := by
    unfold duties; rw [bigSep_map, bigSep_univ_prod]
    exact bigSep_congr fun c _ => by unfold toks; rw [bigSep_univ_sum]; rfl
  iintro HX
  imod (Rounds.fund ER (sched pk) cells duties) $$ HX with ⟨Hst, Hr, Hat, Htok⟩
  imodintro
  ihave Hst := (Entails.of_eq (hX fun g => roundState ER (sched pk) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat] <;> iassumption
  iexact Htok

/-! ## All counters at zero, in and out of the invariants -/

omit [FloatOps F] in
/-- The one semaphore the launch keeps is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's counters at zero: the kernel's own and the barrier's. -/
theorem zeros_eq (c : Dev nD) :
    (bigSep Finset.univ fun k : Own ⊕ Unit => semVal (kcell (c, k)) 0 : sProp 𝕄)
      = iprop(Pipeline.ownSems0 (Ix := Unit) (Name := ℕ) (U := UU) (Lvl := ℕ) (Val := Elt F) (τ := τ) osem c ∗ unscopedSems0 c) := by
  have hu : (Finset.univ : Finset Unit) = {()} := rfl
  rw [unscopedSems0_eq, bigSep_univ_sum, hu, bigSep_singleton]
  rfl

omit [FloatOps F] in
/-- Device `c`'s counters go into invariants. -/
theorem device_alloc (c : Dev nD) :
    iprop(Pipeline.ownSems0 (Ix := Unit) (Name := ℕ) (U := UU) (Lvl := ℕ) (Val := Elt F) (τ := τ) osem c ∗ unscopedSems0 c ∗ dealt pk c)
      ⊢ |={Set.univ}=> iprop((bigSep Finset.univ fun k => iprop(∃ κ : ℕ, cellInv ER (sched pk) κ (kcell (c, k))))
          ∗ (bigSep Finset.univ fun k => iprop(atPos ER (kcell (c, k)) 0 ∅ 0 ∗ reached ER (kcell (c, k)) 0)) ∗ toks c) := by
  have hv := Entails.of_eq (zeros_eq (F := F) c).symm
  have hi : iprop((bigSep Finset.univ fun k : Own ⊕ Unit => semVal (kcell (c, k)) 0) ∗ bigSep Finset.univ fun k : Own ⊕ Unit => roundState ER (sched pk) (kcell (c, k)) 0)
      ⊢ (|={Set.univ}=> bigSep Finset.univ fun k => iprop(∃ κ : ℕ, cellInv ER (sched pk) κ (kcell (c, k))) : sProp 𝕄) := by
    rw [← bigSep_sep']
    exact (bigSep_mono fun k _ => (Rounds.body_intro ER (sched pk) (kcell (c, k))).trans inv_alloc).trans (bigSep_fupd _ _)
  unfold dealt
  iintro ⟨Hos, Hus, Hst, Hat, Htok⟩
  ihave Hv := hv $$ [Hos Hus]
  · isplitl [Hos] <;> iassumption
  imod hi $$ [Hv Hst] with Hinv
  · isplitl [Hv] <;> iassumption
  imodintro
  isplitl [Hinv]; · iexact Hinv
  isplitl [Hat]; · iexact Hat
  iexact Htok

/-! ## The duties round the circle -/

omit [FloatOps F] in
/-- A family over the devices and the steps, each step's part turned by that step. -/
theorem around (Φ : Fin 15 → Dev nD → sProp 𝕄) :
    (bigSep Finset.univ fun c : Dev nD => bigSep Finset.univ fun s : Fin 15 => Φ s c)
      = bigSep Finset.univ fun c : Dev nD => bigSep Finset.univ fun s : Fin 15 => Φ s (peer s c) := by
  have hswap (Ψ : Fin 15 → Dev nD → sProp 𝕄) : (bigSep Finset.univ fun c : Dev nD => bigSep Finset.univ fun s : Fin 15 => Ψ s c)
      = bigSep Finset.univ fun s : Fin 15 => bigSep Finset.univ fun c : Dev nD => Ψ s c := by
    rw [← bigSep_univ_prod fun cs : Dev nD × Fin 15 => Ψ cs.2 cs.1, ← bigSep_univ_prod fun sc : Fin 15 × Dev nD => Ψ sc.1 sc.2,
      bigSep_univ_equiv (Equiv.prodComm (Fin 15) (Dev nD))]
    rfl
  rw [hswap, hswap fun s c => Φ s (peer s c)]
  exact bigSep_congr fun s _ => bigSep_univ_equiv (turn s) (Φ s)

omit [FloatOps F] in
/-- Every duty goes to the device that pays it. -/
theorem toks_around : (bigSep Finset.univ fun c : Dev nD => (toks c : sProp 𝕄)) ⊢ bigSep Finset.univ fun c : Dev nD => payToks c := by
  have hu : (Finset.univ : Finset Unit) = {()} := rfl
  have ht (c : Dev nD) : (toks c : sProp 𝕄) = iprop((bigSep Finset.univ fun d : Fin 15 => dutyTok ER (barCell c) 0 d)
      ∗ (bigSep Finset.univ fun s : Fin 15 => dutyTok ER (sendCell s c) 0 0)
      ∗ (bigSep Finset.univ fun s : Fin 15 => dutyTok ER (recvCell s c) 0 0) ∗ dutyTok ER (locCell c) 0 0) := by
    unfold toks; rw [bigSep_univ_sum, bigSep_univ_sum, hu, bigSep_singleton]; rfl
  rw [bigSep_congr fun c _ => ht c]
  unfold payToks
  rw [bigSep_sep', bigSep_sep', bigSep_sep', bigSep_sep', bigSep_sep', bigSep_sep',
    around (fun (s : Fin 15) (c : Dev nD) => (dutyTok ER (barCell c) 0 s : sProp 𝕄)),
    around (fun (s : Fin 15) (c : Dev nD) => (dutyTok ER (recvCell s c) 0 0 : sProp 𝕄))]
  iintro ⟨H1, H2, H3, H4⟩
  isplitl [H1]; · iexact H1
  isplitl [H3]; · iexact H3
  isplitl [H2]; · iexact H2
  iexact H4

omit [FloatOps F] in
/-- What the devices hold together, dealt to each. -/
theorem regroup :
    (bigSep Finset.univ fun c : Dev nD => iprop((bigSep Finset.univ fun k => iprop(∃ κ : ℕ, cellInv ER (sched pk) κ (kcell (c, k))))
          ∗ (bigSep Finset.univ fun k => iprop(atPos ER (kcell (c, k)) 0 ∅ 0 ∗ reached ER (kcell (c, k)) 0)) ∗ toks c) : sProp 𝕄)
      ⊢ bigSep Finset.univ (ready pk) := by
  rw [bigSep_sep', bigSep_sep', ← bigSep_univ_prod (fun ck : Dev nD × (Own ⊕ Unit) => iprop(∃ κ : ℕ, cellInv ER (sched pk) κ (kcell ck))),
    bigSep_congr (s := Finset.univ) (fun (c : Dev nD) _ => bigSep_sep' Finset.univ (fun k : Own ⊕ Unit => (atPos ER (kcell (c, k)) 0 ∅ 0 : sProp 𝕄)) (fun k => reached ER (kcell (c, k)) 0)),
    bigSep_sep', ← bigSep_univ_prod (fun ck : Dev nD × (Own ⊕ Unit) => (reached ER (kcell ck) 0 : sProp 𝕄))]
  iintro ⟨HI, ⟨Hat, #HR⟩, Htok⟩
  ihave HK := (BI.bigSep_exists_pi Finset.univ (fun (ck : Dev nD × (Own ⊕ Unit)) (κ : ℕ) => (cellInv ER (sched pk) κ (kcell ck) : sProp 𝕄))) $$ HI
  icases HK with ⟨%K, #HI⟩
  ihave Htk := (toks_around (F := F)) $$ Htok
  have hr (c : Dev nD) : iprop(records pk K ∗ linear c) ⊢ (ready pk c : sProp 𝕄) := by
    unfold ready; iintro H; iexists K; iexact H
  have hl : iprop((bigSep Finset.univ fun c : Dev nD => bigSep Finset.univ fun k : Own ⊕ Unit => atPos ER (kcell (c, k)) 0 ∅ 0)
      ∗ bigSep Finset.univ fun c : Dev nD => payToks c) ⊢ (bigSep Finset.univ fun c : Dev nD => linear c : sProp 𝕄) := by
    rw [← bigSep_sep']
    exact Entails.of_eq (bigSep_congr fun c _ => rfl)
  iapply (bigSep_using Finset.univ (records pk K) hr)
  isplitr
  · unfold records; isplitl; · iexact HI
    iexact HR
  · iapply hl
    isplitl [Hat]; · iexact Hat
    iexact Htk

omit [FloatOps F] in
/-- The set-up over all devices at once. -/
theorem setup : (bigSep Finset.univ fun c => iprop(Pipeline.ownSems0 (Ix := Unit) (Name := ℕ) (U := UU) (Lvl := ℕ) (Val := Elt F) (τ := τ) osem c ∗ unscopedSems0 c ∗ dealt pk c) : sProp 𝕄)
    ⊢ |={Set.univ}=> bigSep Finset.univ (ready pk) :=
  ((bigSep_mono fun c _ => device_alloc pk c).trans (bigSep_fupd _ _)).trans (BI.fupd_mono (regroup pk))

/-! ## The launch's credits -/

/-- What device `c` owes at the start: all its signals and all its copies. -/
abbrev O₀ (c : Dev nD) : CellTallies nD τ sig Unit := owed c Finset.univ Finset.univ

/-- A barrier counter and a receive counter are different. -/
theorem bar_ne_recv (s : Fin 15) (c d : Dev nD) : barCell c ≠ recvCell s d := fun h => by
  have := congrArg Prod.snd h; cases this

/-- The credit at a barrier counter and at a receive counter, one device's debts summed step by step. -/
theorem owed_bar (d c : Dev nD) : O₀ d (barCell c) () = ∑ s : Fin 15, if peer s d = c then 1 else 0 := by
  unfold O₀ owed
  rw [Pi.add_apply, Finsupp.add_apply, Finset.sum_apply, Finset.sum_apply, Finsupp.finsetSum_apply, Finsupp.finsetSum_apply,
    Finset.sum_eq_zero (f := fun s : Fin 15 => tallyAt (recvCell s (peer s d)) () N (barCell c) ()) fun s _ => by
      rw [tallyAt_ne_cell (bar_ne_recv s c _)]; rfl, Nat.add_zero]
  refine Finset.sum_congr rfl fun s _ => ?_
  rw [tallyAt_apply]
  refine if_congr ⟨fun h => ?_, fun h => ?_⟩ rfl rfl
  · exact (congrArg (fun g : GSem nD τ sig => g.1.1) h.1).symm
  · rw [h]; exact ⟨rfl, rfl⟩

theorem owed_recv (k : Fin 15) (d c : Dev nD) : O₀ d (recvCell k c) () = if peer k d = c then N else 0 := by
  unfold O₀ owed
  rw [Pi.add_apply, Finsupp.add_apply, Finset.sum_apply, Finset.sum_apply, Finsupp.finsetSum_apply, Finsupp.finsetSum_apply,
    Finset.sum_eq_zero (f := fun s : Fin 15 => tallyAt (barCell (peer s d)) () 1 (recvCell k c) ()) fun s _ => by
      rw [tallyAt_ne_cell (bar_ne_recv k _ c).symm]; rfl, Nat.zero_add,
    Finset.sum_eq_single k (fun s _ hs => by
      rw [tallyAt_ne_cell fun h => hs ?_]; · rfl
      have h2 := congrArg (fun g : GSem nD τ sig => match g.2 with | .dma q => q.val | .reg _ => 0) h
      have h3 : 20 + k.val = 20 + s.val := h2
      exact Fin.ext (by omega)) (fun h => absurd (Finset.mem_univ k) h), tallyAt_apply]
  refine if_congr ⟨fun h => ?_, fun h => ?_⟩ rfl rfl
  · exact (congrArg (fun g : GSem nD τ sig => g.1.1) h.1).symm
  · rw [h]; exact ⟨rfl, rfl⟩

/-- Exactly one device is `k + 1` places before `c`. -/
theorem sum_peer (k : Fin 15) (c : Dev nD) (n : ℕ) : (∑ d : Dev nD, if peer k d = c then n else 0) = n := by
  rw [show (∑ d : Dev nD, if peer k d = c then n else 0) = ∑ d : Dev nD, if turn k d = c then n else 0 from rfl,
    Equiv.sum_comp (turn k) fun d : Dev nD => if d = c then n else 0, Finset.sum_ite_eq' Finset.univ c fun _ => n,
    if_pos (Finset.mem_univ _)]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun s _ => sum_peer s c 1]
  rfl

theorem launch_recv (k : Fin 15) (c : Dev nD) :
    tallyOn (recvCell k c) (launchCredit (Pipeline.owing O₀) 0 (recvCell k c)) = (tallyAt (recvCell k c) () N : CellTallies nD τ sig Unit) := by
  unfold tallyAt; refine congrArg _ (Finsupp.ext fun u => ?_); cases u
  rw [Pipeline.launchCredit_owing, Finsupp.single_eq_same, Finset.sum_congr rfl fun d _ => owed_recv k d c, sum_peer]

omit [FloatOps F] in
/-- The credits device `c` is launched with: its barrier's and its receive counters'. -/
theorem creds (c : Dev nD) :
    (Pipeline.launchCred O₀ c : sProp 𝕄)
      ⊢ iprop(cred (tallyAt (barCell c) () 15) ∗ bigSep Finset.univ fun s : Fin 15 => cred (tallyAt (recvCell s c) () N)) := by
  have hinj : Function.Injective fun s : Fin 15 => (SemLoc.dma (recvSem s) : SemLoc sig) := by decide
  have hsub : Finset.univ.map ⟨fun s : Fin 15 => (SemLoc.dma (recvSem s) : SemLoc sig), hinj⟩ ⊆ Finset.univ.erase (SemLoc.reg barS : SemLoc sig) :=
    fun a ha => by
      obtain ⟨s, -, rfl⟩ := Finset.mem_map.mp ha
      exact Finset.mem_erase.mpr ⟨(fun h => by cases h), Finset.mem_univ _⟩
  unfold Pipeline.launchCred
  rw [bigSep_univ_at _ (SemLoc.reg barS), launch_bar]
  refine sep_mono_right ((bigSep_subset hsub).trans ?_)
  rw [bigSep_map]
  exact Entails.of_eq (bigSep_congr fun s _ => congrArg cred (launch_recv s c))

end Cert.MoeProof

end
-- ==== Proof.Launch.lean ====
/-
# The launch

From the kernel's run on one device to the run of the program on all sixteen: what each staging buffer holds, the
start and the end of the body, the order of waiting, and the run itself. At the end every result array holds the
kernel's value, every argument what it held, and every semaphore counter is zero.
-/
module

public import proofs.«01_k».proof.Proof.Deal
public import proofs.«01_k».proof.Proof.Gen.KernelIdeal.Points
public import Idealize.ShloMosaic.Lib.Pipeline.CollectiveSegs

@[expose] public section

set_option backward.proofsInPublic true
set_option maxRecDepth 8000

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the devices compute, from the memory they start with -/

/-- Device `c`'s tokens, -/
abbrev xA (c : Dev nD) : Vec F S512x256 .bf16 := m ((c : Thread nD τ).loc main_arg0)
/-- its routing, -/
abbrev rA (c : Dev nD) : Vec F S512x1 .i32 := m ((c : Thread nD τ).loc main_arg2)
/-- and its experts' weights. -/
abbrev wA (c : Dev nD) : Vec F S4x256x512 .bf16 := m ((c : Thread nD τ).loc main_arg3)
/-- The rows device `c` packs. -/
abbrev pkA (c : Dev nD) : Vec F S24x512 .bf16 := packV c (rA m c) (xA m c) (wA m c)
/-- Device `c`'s result. -/
abbrev outA (c : Dev nD) : Vec F S32x512 .f32 := outV c (rA m c) (gathered (pkA m))

/-- The memory and the registers at the start, every counter zero. -/
def start₀ : MemSt nD τ sig (Elt F) := ⟨m, fun _ => 0, ρ⟩

/-! ## The pipeline's data -/

/-- What the body starts from beside its buffers. -/
def start (c : Dev nD) : sProp 𝕄 :=
  iprop(ready (pkA m) c ∗ cred (tallyAt (barCell c) () 15) ∗ (bigSep Finset.univ fun s : Fin 15 => cred (tallyAt (recvCell s c) () N)) ∗ levAts L lv)

/-- The device's four scratch buffers, holding anything. -/
def scratch (c : Dev nD) : sProp 𝕄 :=
  iprop((∃ f, holds c cc0_scratch0 f) ∗ (∃ f, holds c cc0_scratch1 f) ∗ (∃ f, holds c cc0_scratch2 f) ∗ (∃ f, holds c cc0_scratch3 f))

/-- Before the body, -/
def Φ₀ (c : Dev nD) : sProp 𝕄 := iprop(start m c ∗ scratch c)
/-- and after it: every counter back at zero. -/
def Φ₁ (c : Dev nD) : sProp 𝕄 := iprop((bigSep Finset.univ fun k : Own ⊕ Unit => semVal (kcell (c, k)) 0) ∗ scratch c)

def dats (_ : Fin 1) (c : Dev nD) : Dat τ (Elt F) Unit ℕ UU ℕ cfg0 c where
  A w := m ((cfg0.win w).arr.view.loc (c : Thread nD τ))
  after w _ := match w with
    | ⟨0, _⟩ => xA m c
    | ⟨1, _⟩ => m ((c : Thread nD τ).loc main_arg1)
    | ⟨2, _⟩ => rA m c
    | ⟨3, _⟩ => wA m c
    | ⟨4, _⟩ => outA m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- Reading an array's one block reads the array. -/
theorem blk0_0 (f : Vec F S512x256 .bf16) : (win0_0.blk (0 : Fin 1)).view.read (Elt F) f = f :=
  Memref.read_access_unit_zero (Elt F) main_arg0 (funext fun a => by fin_cases a <;> decide) (fun a => by fin_cases a <;> decide) f
theorem blk0_1 (f : Vec F S256x64 .bf16) : (win0_1.blk (0 : Fin 1)).view.read (Elt F) f = f :=
  Memref.read_access_unit_zero (Elt F) main_arg1 (funext fun a => by fin_cases a <;> decide) (fun a => by fin_cases a <;> decide) f
theorem blk0_2 (f : Vec F S512x1 .i32) : (win0_2.blk (0 : Fin 1)).view.read (Elt F) f = f :=
  Memref.read_access_unit_zero (Elt F) main_arg2 (funext fun a => by fin_cases a <;> decide) (fun a => by fin_cases a <;> decide) f
theorem blk0_3 (f : Vec F S4x256x512 .bf16) : (win0_3.blk (0 : Fin 1)).view.read (Elt F) f = f :=
  Memref.read_access_unit_zero (Elt F) main_arg3 (funext fun a => by fin_cases a <;> decide) (fun a => by fin_cases a <;> decide) f
theorem blk0_4 (f : Vec F S32x512 .f32) : (win0_4.blk (0 : Fin 1)).view.read (Elt F) f = f :=
  Memref.read_access_unit_zero (Elt F) main_v1 (funext fun a => by fin_cases a <;> decide) (fun a => by fin_cases a <;> decide) f

/-- What the body finds in each input's staging buffer. -/
theorem before_0 (c : Dev nD) (d) : (dats m 0 c).before (0 : Fin 5) t0_0 d = xA m c := by
  unfold Dat.before; rw [if_pos (fetch0_0 t0_0)]; exact blk0_0 (F := F) _
theorem before_1 (c : Dev nD) (d) : (dats m 0 c).before (1 : Fin 5) t0_0 d = m ((c : Thread nD τ).loc main_arg1) := by
  unfold Dat.before; rw [if_pos (fetch0_1 t0_0)]; exact blk0_1 (F := F) _
theorem before_2 (c : Dev nD) (d) : (dats m 0 c).before (2 : Fin 5) t0_0 d = rA m c := by
  unfold Dat.before; rw [if_pos (fetch0_2 t0_0)]; exact blk0_2 (F := F) _
theorem before_3 (c : Dev nD) (d) : (dats m 0 c).before (3 : Fin 5) t0_0 d = wA m c := by
  unfold Dat.before; rw [if_pos (fetch0_3 t0_0)]; exact blk0_3 (F := F) _

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's start and end as the pipeline states them. -/
def bodyPre (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))
def bodyPost (c : Dev nD) : sProp 𝕄 :=
  iprop(Φ₁ c ∗ (dats m 0 c).owesAt () t0_0.succ
    ∗ stg c cc0_stg0_0 (xA m c)
    ∗ stg c cc0_stg1_0 (m ((c : Thread nD τ).loc main_arg1))
    ∗ stg c cc0_stg2_0 (rA m c)
    ∗ stg c cc0_stg3_0 (wA m c)
    ∗ stg c cc0_stg4_0 (outA m c))

/-- The kernel's body on device `c`, as the pipeline calls it. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ Runs c (atBufs (cc0_body (F := F))) (fun _ => bodyPost m c)
  unfold bodyPre Φ₀ start ready scratch
  iintro ⟨⟨⟨⟨%K, #HR, Hlin⟩, HcB, HcR, #Hlev⟩, H0, H1, H2, H3⟩, Ho, ⟨%d0, %f0, %e0, Hx⟩, ⟨%d1, %f1, %e1, Hw⟩, ⟨%d2, %f2, %e2, Hr⟩, ⟨%d3, %f3, %e3, HW⟩, ⟨%d4, %f4, %e4, Hout⟩⟩
  rw [before_0] at e0; rw [before_1] at e1; rw [before_2] at e2; rw [before_3] at e3
  subst e0 e1 e2 e3
  unfold Dat.owesAt Pipeline.owesWithin
  icases Ho with ⟨%W, %hW, HO⟩
  iapply (body_run (pkA m) K c (xA m c) (rA m c) (wA m c) f4 rfl) $$ [Hlin HcB HcR H0 H1 H2 H3 Hx Hr HW Hout HO]
  · isplitr; · iexact HR
    isplitr; · iexact Hlev
    isplitl [Hlin]; · iexact Hlin
    isplitl [HO]; · iexists W; iexact HO
    isplitl [HcB]; · iexact HcB
    isplitl [HcR]; · iexact HcR
    isplitl [Hx]; · iexact Hx
    isplitl [Hr]; · iexact Hr
    isplitl [HW]; · iexact HW
    isplitl [Hout]; · iexact Hout
    isplitl [H0]; · iexact H0
    isplitl [H1]; · iexact H1
    isplitl [H2] <;> iassumption
  iintro ⟨%W', HO⟩ Hz Hx Hr HW Hout H0 H1 H2 H3
  unfold bodyPost Φ₁ scratch Dat.owesAt Pipeline.owesWithin
  isplitl [Hz H0 H1 H2 H3]
  · isplitl [Hz]; · iexact Hz
    isplitl [H0]; · iexact H0
    isplitl [H1]; · iexact H1
    isplitl [H2] <;> iassumption
  isplitl [HO]
  · iexists W'
    isplitr; · ipureintro; exact fun _ _ => Or.inl trivial
    iexact HO
  isplitl [Hx]; · iexists _; isplitr; · (ipureintro; rfl)
                  iexact Hx
  isplitl [Hw]; · iexists _; isplitr; · (ipureintro; rfl)
                  iexact Hw
  isplitl [Hr]; · iexists _; isplitr; · (ipureintro; rfl)
                  iexact Hr
  isplitl [HW]; · iexists _; isplitr; · (ipureintro; rfl)
                  iexact HW
  iexists _; isplitr; · (ipureintro; rfl)
  iexact Hout

/-! ## The launch's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready (pkA m) c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem body_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem body_out (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratch
  rw [zeros_eq]
  iintro ⟨⟨Ho, Hu⟩, Hr⟩
  isplitl [Hu]; · iexact Hu
  isplitl [Ho]; · iexact Ho
  iexact Hr

/-- The pipeline's own waits: its counters come before everything owed. -/
theorem waits (c : Dev nD) : (levAts L lv : sProp 𝕄) ⊢ Pipeline.cellsWaits cfgs (dats m) () 0 c :=
  Pipeline.cellsWaits_intro cfgs (dats m) () 0 c fun w s t => by
    have h0 : lv ((c : Thread nD τ), .dma ((cfg0.win w).sem s)) () ≤ 0 := by
      show (if 20 ≤ ((cfg0.win w).sem s).val ∧ ((cfg0.win w).sem s).val < 35 then 2 else 0) ≤ 0
      fin_cases w <;> fin_cases s <;> decide
    rcases t with ⟨_ | _, ht⟩
    · exact mayWait c _ Finset.univ Finset.univ 0 h0 (fun _ => Nat.one_pos) (by decide)
    · have h1 := mayWait (F := F) c (.dma ((cfg0.win w).sem s)) ∅ ∅ 0 h0 (fun _ => Nat.one_pos) (by decide)
      rw [owed_none] at h1
      exact h1

/-! ## The run -/

/-- Window `w`'s array after the run. -/
def finalA (c : Dev nD) (w : Fin cfg0.W) : Buf (Elt F) ((cfg0.win w).arr.view.loc (c : Thread nD τ)) := (dats m 0 c).arrAt w cfg0.N

/-- From any memory with every counter zero, all sixteen devices run to an end, every windowed array as computed and
    every counter zero. -/
theorem run_windows : θ_run defs (onTc (τ := τ) (main (F := F))) (start₀ m ρ) (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt (pkA m)) (G' := ready (pkA m)) (u₀ := u₀)
    (hu₀ := by
      unfold u₀
      iintro Hu
      ihave H := (ownU_pair _ _) $$ Hu
      icases H with ⟨HP, HX⟩
      imod (fund_cells (pkA m)) $$ HX with HG
      imodintro
      isplitl [HP] <;> iassumption)
    (hglob := setup (pkA m))
    (hA := fun _ _ => rfl) (hpf := fun _ k => k.elim0)
    (X := start m) (Y := fun c => unscopedSems0 c) (Z := fun _ => iprop(emp))
    (hX := start_intro m ρ) (hin := body_in m) (hout := body_out m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array after the run. -/
theorem final_out (c : Dev nD) : finalA m c (4 : Fin 5) = outA m c := by
  have h : (win0_4.blk (0 : Fin 1)).view.read (Elt F) (finalA m c (4 : Fin 5)) = outA m c := by
    unfold finalA
    rw [show cfg0.N = ((0 : Fin 1) : Fin cfg0.N).val + 1 from rfl, (dats m 0 c).arrAt_succ (4 : Fin 5) (0 : Fin 1)]
    rw [show (cfg0.win (4 : Fin 5)).flush (0 : Fin 1) = true from by decide, if_pos rfl]
    exact View.read_write_univ _ _
  exact (blk0_4 (F := F) (finalA m c (4 : Fin 5))).symm.trans h

/-- The program's run: every device's result holds `outA`, its arguments are unchanged, every counter is zero. -/
theorem run_main : θ_run defs (onTc (τ := τ) (main (F := F))) (start₀ m ρ) (fun r =>
    (∀ c : Dev nD,
      r.2.mem ((c : Thread nD τ).loc main_v1) = outA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c =>
    ⟨(h.1 c (4 : Fin 5)).trans (final_out m c),
      (h.1 c (0 : Fin 5)).trans ((dats m 0 c).arrAt_in (0 : Fin 5) rfl _),
      (h.1 c (1 : Fin 5)).trans ((dats m 0 c).arrAt_in (1 : Fin 5) rfl _),
      (h.1 c (2 : Fin 5)).trans ((dats m 0 c).arrAt_in (2 : Fin 5) rfl _),
      (h.1 c (3 : Fin 5)).trans ((dats m 0 c).arrAt_in (3 : Fin 5) rfl _)⟩, h.2⟩) (run_windows m ρ)

end Cert.MoeProof

end
-- ==== Proof.Words.lean ====
/-
# Indicators and lane words

A comparison bit that has been widened and turned into a float is 1 where the comparison holds and 0 elsewhere; a sum of
such numbers times a value picks that value. The lane numbers that the kernel divides by 8 or by 6 are divided exactly.
-/
module

public import proofs.«01_k».proof.Proof.Contents
public import Idealize.ShloMosaic.Lib.Pointwise

@[expose] public section

set_option maxRecDepth 16384

noncomputable section

namespace Cert.MoeProof

open Cert.KernelIdeal Cert.KernelIdeal.Gen
open Idealize.ShloMosaic

/-- One where `p` holds, zero elsewhere. -/
def ind (p : Prop) [Decidable p] : EReal := if p then 1 else 0

theorem ind_congr {p q : Prop} [Decidable p] [Decidable q] (h : p ↔ q) : ind p = ind q := if_congr h rfl rfl

theorem ind_mul_ind (p q : Prop) [Decidable p] [Decidable q] : ind p * ind q = ind (p ∧ q) := by
  unfold ind
  by_cases hp : p <;> by_cases hq : q <;> simp [hp, hq]

theorem ind_mul (p : Prop) [Decidable p] (v : EReal) : ind p * v = if p then v else 0 := by
  unfold ind
  split <;> simp

/-- A widened comparison bit as a float. -/
theorem sitofp_bit (b : BitVec 1) : FloatOps.sitofp (F := Ideal) .f32 (b.setWidth 32) = ind (b = 1#1) := by
  have h : ∀ b : BitVec 1, b = 0#1 ∨ b = 1#1 := by decide
  show (((b.setWidth 32).toInt : ℝ) : EReal) = _
  unfold ind
  rcases h b with rfl | rfl
  · rw [if_neg (by decide), show ((0#1 : BitVec 1).setWidth 32).toInt = 0 by decide]; simp
  · rw [if_pos rfl, show ((1#1 : BitVec 1).setWidth 32).toInt = 1 by decide]; simp

theorem andi_one (a b : BitVec 1) : IntOp.andi a b = 1#1 ↔ a = 1#1 ∧ b = 1#1 := by
  revert a b; decide

theorem cmpi_eq_one {w : ℕ} (x y : BitVec w) : IntOp.cmpi .eq x y = 1#1 ↔ x = y := by
  show BitVec.ofBool (x == y) = 1#1 ↔ x = y
  by_cases h : x = y
  · simp [h]
  · simp [beq_eq_false_iff_ne.2 h, h]

theorem cmpi_slt_one {w : ℕ} (x y : BitVec w) : IntOp.cmpi .slt x y = 1#1 ↔ x.toInt < y.toInt := by
  show BitVec.ofBool (decide (x.toInt < y.toInt)) = 1#1 ↔ _
  by_cases h : x.toInt < y.toInt <;> simp [h]

/-- The word of a small number, read signed. -/
theorem toInt_small {n : ℕ} (h : n < 2 ^ 31) : (BitVec.ofNat 32 n).toInt = (n : ℤ) := by
  rw [BitVec.toInt_eq_toNat_of_lt (by rw [BitVec.toNat_ofNat]; omega), BitVec.toNat_ofNat]; omega

theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A word is the word of `n` exactly when it reads `n`. -/
theorem eq_ofNat_iff (x : BitVec 32) {n : ℕ} (hn : n < 2 ^ 32) : x = BitVec.ofNat 32 n ↔ x.toNat = n := by
  constructor
  · rintro rfl; rw [BitVec.toNat_ofNat, Nat.mod_eq_of_lt hn]
  · rintro rfl; simp

/-- A sum with one live term. -/
theorem sum_pick {ι : Type} [Fintype ι] [DecidableEq ι] (p : ι → Prop) [DecidablePred p] (a : ι) (ha : ∀ i, p i ↔ i = a)
    (f : ι → EReal) : ∑ i, ind (p i) * f i = f a := by
  rw [Finset.sum_eq_single a (fun i _ hi => ?_) (fun h => absurd (Finset.mem_univ a) h), ind_mul, if_pos ((ha a).2 rfl)]
  rw [ind_mul, if_neg (fun h => hi ((ha i).1 h))]

/-- A sum with no live term. -/
theorem sum_none {ι : Type} [Fintype ι] (p : ι → Prop) [DecidablePred p] (ha : ∀ i, ¬ p i)
    (f : ι → EReal) : ∑ i, ind (p i) * f i = 0 :=
  Finset.sum_eq_zero fun i _ => by rw [ind_mul, if_neg (ha i)]

/-! ## Lane words -/

/-- The device's position is its number. -/
theorem posW_eq (c : Dev nD) : posW c = BitVec.ofNat 32 c.val := by
  revert c; decide +kernel

/-- Lane `k` of the expert numbers: the device's first expert plus `k / 8`. -/
theorem pay4_apply (c : Dev nD) (k : Fin 32) :
    (k0_pay4 (posW c) : IVec S1x32 32) (ix2 0 k) = BitVec.ofNat 32 (4 * c.val + k.val / 8) := by
  rw [posW_eq]
  pointwise [k0_pay4]
  revert c k
  decide +kernel

/-- Lane `k` of the slot numbers: `k mod 8`. -/
theorem slot_apply (k : Fin 32) :
    Scalar.select ((k0_pay6 : IVec S1x32 1) (ix2 0 k)) (IntOp.addi ((k0_pay5 : IVec S1x32 32) (ix2 0 k)) eightW)
      ((k0_pay5 : IVec S1x32 32) (ix2 0 k)) = BitVec.ofNat 32 (k.val % 8) := by
  pointwise [k0_pay5, k0_pay6]
  revert k
  decide +kernel

end Cert.MoeProof
-- ==== Proof.Place.lean ====
/-
# A token's place in its expert's queue

Every token names an expert. The tokens of one expert are served in order, so a token's place is the number of earlier
tokens that name the same expert; a token that names no expert has place 0. Two tokens of one expert with one place are
the same token. The kernel computes the place as a sum of products of 0/1 matrices, masked to the earlier tokens.
-/
module

public import proofs.«01_k».proof.Proof.Words

@[expose] public section

set_option maxRecDepth 16384

noncomputable section

namespace Cert.MoeProof

open Cert.KernelIdeal Cert.KernelIdeal.Gen
open Idealize.ShloMosaic

variable (r : Vec Ideal S512x1 .i32)

/-- The expert that token `t` names, read as a natural number; 64 and above is no expert. -/
def routeN (t : Fin 512) : ℕ := (r (ix2 t 0) : BitVec 32).toNat

/-- The earlier tokens that name token `t`'s expert. -/
def earlier (t : Fin 512) : Finset (Fin 512) :=
  Finset.univ.filter fun u => (routeN r t = routeN r u ∧ routeN r t < 64) ∧ u < t

/-- Token `t`'s place among the tokens of its expert. -/
def place (t : Fin 512) : ℕ := (earlier r t).card

theorem place_lt (t : Fin 512) : place r t < 512 := by
  have h : earlier r t ⊂ Finset.univ :=
    Finset.ssubset_univ_iff.2 fun h => by
      have := Finset.mem_univ t
      rw [← h, earlier, Finset.mem_filter] at this
      exact absurd this.2.2 (lt_irrefl t)
  have h' := Finset.card_lt_card h
  rw [Finset.card_univ, Fintype.card_fin] at h'
  exact h'

theorem place_strict {t u : Fin 512} (hr : routeN r t = routeN r u) (ht : routeN r t < 64) (hlt : u < t) :
    place r u < place r t := by
  refine Finset.card_lt_card (Finset.ssubset_iff_of_subset (fun v hv => ?_) |>.2 ⟨u, ?_, ?_⟩)
  · rw [earlier, Finset.mem_filter] at hv ⊢
    exact ⟨hv.1, ⟨hr.trans hv.2.1.1, ht⟩, hv.2.2.trans hlt⟩
  · rw [earlier, Finset.mem_filter]
    exact ⟨Finset.mem_univ _, ⟨hr, ht⟩, hlt⟩
  · rw [earlier, Finset.mem_filter]
    exact fun h => lt_irrefl u h.2.2

/-- An expert and a place name one token. -/
theorem place_inj {t u : Fin 512} (hr : routeN r t = routeN r u) (ht : routeN r t < 64) (hp : place r t = place r u) :
    t = u := by
  rcases lt_trichotomy t u with h | h | h
  · exact absurd hp (place_strict r hr.symm (hr ▸ ht) h).ne
  · exact h
  · exact absurd hp (place_strict r hr ht h).ne'

/-- Two tokens' one-hot rows agree at one expert or nowhere. -/
theorem agree (t u : Fin 512) :
    ∑ e : Fin 64, ind ((r (ix2 t 0) : BitVec 32) = BitVec.ofNat 32 e.val) * ind ((r (ix2 u 0) : BitVec 32) = BitVec.ofNat 32 e.val)
      = ind (routeN r t = routeN r u ∧ routeN r t < 64) := by
  have he : ∀ (v : Fin 512) (e : Fin 64), (r (ix2 v 0) : BitVec 32) = BitVec.ofNat 32 e.val ↔ routeN r v = e.val :=
    fun v e => eq_ofNat_iff _ (by omega)
  simp only [he]
  by_cases ht : routeN r t < 64
  · rw [sum_pick _ (⟨routeN r t, ht⟩ : Fin 64) (fun i => by rw [Fin.ext_iff]; exact eq_comm)]
    exact ind_congr ⟨fun h => ⟨h.symm, ht⟩, fun h => h.1.symm⟩
  · rw [sum_none _ (fun i h => ht (by omega))]
    exact (if_neg fun h => ht h.2).symm

/-- A count turned into a float and back is the count. -/
theorem fptosi_count {n : ℕ} (hn : n < 512) : FloatOps.fptosi (F := Ideal) (φ := .f32) 32 ((n : EReal)) = BitVec.ofNat 32 n := by
  show Ideal.fptosi 32 (((n : ℝ)) : EReal) = _
  have h : Ideal.toIntClamped (-(2 ^ (32 - 1) : ℕ)) ((2 ^ (32 - 1) : ℕ) - 1) (((n : ℝ)) : EReal) = (n : ℤ) := by
    show max _ (min _ (if (0 : ℝ) ≤ n then ⌊(n : ℝ)⌋ else ⌈(n : ℝ)⌉)) = (n : ℤ)
    rw [if_pos (Nat.cast_nonneg n), Int.floor_natCast]
    norm_num
    omega
  unfold Ideal.fptosi
  rw [h]
  exact BitVec.ofInt_natCast _ _

/-- The kernel's rank of a token is its place. -/
theorem pay2_apply (t : Fin 512) : k0_pay2 (F := Ideal) r (ix2 t 0) = BitVec.ofNat 32 (place r t) := by
  pointwise [k0_pay2, k0_pay1]
  simp only [sitofp_bit, cmpi_eq_one, cmpi_slt_one]
  rw [← fptosi_count (place_lt r t)]
  refine congrArg (FloatOps.fptosi (F := Ideal) (φ := .f32) 32) ?_
  rw [place, earlier, ← Finset.sum_boole]
  refine Finset.sum_congr rfl fun u _ => ?_
  rw [agree, ind_mul_ind]
  refine ind_congr (and_congr_right fun _ => ?_)
  rw [toInt_small (by omega), toInt_small (by omega)]
  exact Nat.cast_lt

theorem rankV_apply (t : Fin 512) : (rankV r : Vec Ideal S512x1 .i32) (ix2 t 0) = BitVec.ofNat 32 (place r t) := by
  rw [← pay2_apply]
  unfold rankV
  pointwise [k0_pay3]

end Cert.MoeProof
-- ==== Proof.Pack.lean ====
/-
# What one device sends

A device gathers, for each of its four experts, the tokens with places 0 to 5 into six of eight slots; multiplies each
expert's slots with the expert's weights; and packs the six live rows of each expert together. Row `p` of the result is
the product for expert `p / 6` of the token at place `p mod 6`.
-/
module

public import proofs.«01_k».proof.Proof.Place

@[expose] public section

set_option maxRecDepth 16384

noncomputable section

namespace Cert.MoeProof

open Cert.KernelIdeal Cert.KernelIdeal.Gen
open Idealize.ShloMosaic

variable (c : Dev nD) (r : Vec Ideal S512x1 .i32) (x : Vec Ideal S512x256 .bf16) (W : Vec Ideal S4x256x512 .bf16)

/-- A gathered slot, one of the first six of its expert: the token with the slot's expert and place. -/
theorem gatherV_apply (k : Fin 32) (hk : k.val % 8 < 6) (d : Fin 256) :
    gatherV c r x (ix2 k d)
      = ∑ t : Fin 512, ind (routeN r t = 4 * c.val + k.val / 8 ∧ place r t = k.val % 8) * (x (ix2 t d) : EReal) := by
  have hc : c.val < 16 := c.isLt
  pointwise [gatherV, k0_pay7, k0_pay1]
  simp only [sitofp_bit, andi_one, cmpi_eq_one, cmpi_slt_one, slot_apply, pay4_apply, pay2_apply]
  refine Finset.sum_congr rfl fun t _ => congrArg (· * (x (ix2 t d) : EReal)) (ind_congr ?_)
  rw [eq_ofNat_iff _ (by omega), ofNat_inj (by have := place_lt r t; omega) (by omega),
    show (6#32 : BitVec 32) = BitVec.ofNat 32 6 from rfl, toInt_small (by omega), toInt_small (by omega)]
  exact and_iff_left (by exact_mod_cast hk)

/-- A block's row: the gathered row times the expert's weights. -/
theorem blockV_apply (e : Fin 4) (s : Fin 8) (h : Fin 512) :
    blockV c r x W e (ix2 s h)
      = ∑ d : Fin 256, gatherV c r x (ix2 ⟨8 * e.val + s.val, by omega⟩ d) * (W (ix3 e d h) : EReal) := by
  match e with
  | 0 => pointwise [blockV, k0_pay8, gatherV, slabV, ← ix3_eq_valueIdx]
  | 1 => pointwise [blockV, k0_pay9, gatherV, slabV, ← ix3_eq_valueIdx]
  | 2 => pointwise [blockV, k0_pay10, k0_pay11, gatherV, slabV, ← ix3_eq_valueIdx]
  | 3 => pointwise [blockV, k0_pay12, gatherV, slabV, ← ix3_eq_valueIdx]

/-- A row of the staging buffer: the gathered row times its expert's weights. -/
theorem stageV_apply (k : Fin 32) (h : Fin 512) :
    stageV c r x W (ix2 k h)
      = ∑ d : Fin 256, gatherV c r x (ix2 k d) * (W (ix3 ⟨k.val / 8, by omega⟩ d h) : EReal) := by
  refine (congrArg (blockV c r x W ⟨k.val / 8, by omega⟩)
    (ix2_eq_valueIdx (⟨k.val % 8, by omega⟩ : Fin 8) h).symm).trans ((blockV_apply c r x W _ _ h).trans ?_)
  refine Finset.sum_congr rfl fun d _ => ?_
  rw [show (⟨8 * (k.val / 8) + k.val % 8, by omega⟩ : Fin 32) = k from Fin.ext (by simp only; omega)]

/-- Packed row `p` is a row of the staging buffer. -/
theorem packV_stage (p : Fin 24) (h : Fin 512) :
    packV c r x W (ix2 p h) = stageV c r x W (ix2 ⟨8 * (p.val / 6) + p.val % 6, by omega⟩ h) := by
  pointwise [packV, k0_pay15, k0_pay13, k0_pay14]
  simp only [sitofp_bit, cmpi_eq_one]
  refine sum_pick _ _ ?_ fun k => stageV c r x W (ix2 k h)
  clear h
  revert p
  decide +kernel

/-- Packed row `p`: expert `p / 6`'s product for the token at place `p mod 6`. -/
theorem packV_apply (p : Fin 24) (h : Fin 512) :
    packV c r x W (ix2 p h)
      = ∑ d : Fin 256, (∑ t : Fin 512, ind (routeN r t = 4 * c.val + p.val / 6 ∧ place r t = p.val % 6) * (x (ix2 t d) : EReal))
          * (W (ix3 ⟨p.val / 6, by omega⟩ d h) : EReal) := by
  rw [packV_stage, stageV_apply]
  refine Finset.sum_congr rfl fun d _ => ?_
  have h1 : (8 * (p.val / 6) + p.val % 6) / 8 = p.val / 6 := by omega
  have h2 : (8 * (p.val / 6) + p.val % 6) % 8 = p.val % 6 := by omega
  rw [gatherV_apply c r x _ (by simp only [h2]; omega)]
  simp only [h1, h2]

end Cert.MoeProof
-- ==== Proof.Select.lean ====
/-
# What one device returns

A device owns 32 tokens. For each it selects, among the 384 received rows, the one with the token's expert and place, if
the token names an expert and its place is below 6. That row is the token's own product with the expert's weights.
-/
module

public import proofs.«01_k».proof.Proof.Pack

@[expose] public section

set_option maxRecDepth 16384

noncomputable section

namespace Cert.MoeProof

open Cert.KernelIdeal Cert.KernelIdeal.Gen
open Idealize.ShloMosaic

variable (c : Dev nD) (r : Vec Ideal S512x1 .i32)

/-- Row `t` of the device's own 32 tokens. -/
abbrev own (c : Dev nD) (t : Fin 32) : Fin 512 := ⟨32 * c.val + t.val, by have h : c.val < 16 := c.isLt; omega⟩

theorem ownRows_apply (v : Vec Ideal S512x1 .i32) (t : Fin 32) : ownRows (F := Ideal) c v (ix2 t 0) = v (ix2 (own c t) 0) :=
  congrArg v (ix2_eq_valueIdx (own c t) 0).symm

/-- The selection: lane `g` is chosen when it has the token's expert and place. -/
theorem selV_apply (t : Fin 32) (g : Fin 384) :
    selV (F := Ideal) c r (ix2 t g)
      = ind (routeN r (own c t) = g.val / 6 ∧ place r (own c t) = g.val % 6) := by
  have hp := place_lt r (own c t)
  pointwise [selV, k0_pay16, k0_pay17, k0_pay18]
  simp only [sitofp_bit, andi_one, cmpi_eq_one, ownRows_apply, rankV_apply]
  refine ind_congr (and_congr ((Eq.congr_right ?_).trans (eq_ofNat_iff _ (n := g.val / 6) (by omega)))
    ((Eq.congr_right ?_).trans (ofNat_inj (b := g.val % 6) (by omega) (by omega))))
  all_goals
    clear hp
    revert g
    decide +kernel

/-- A received row is its sender's packed row. -/
theorem gathered_apply (pk : Dev nD → Vec Ideal S24x512 .bf16) (g : Fin 384) (h : Fin 512) (d : Dev nD) (p : Fin 24)
    (hd : d.val = g.val / 24) (hp : p.val = g.val % 24) : gathered (F := Ideal) pk (ix2 g h) = pk d (ix2 p h) := by
  rw [ix2_eq_valueIdx p h]
  have e1 : d = ⟨g.val / 24, by omega⟩ := Fin.ext hd
  have e2 : p = ⟨g.val % 24, by omega⟩ := Fin.ext hp
  rw [e1, e2]
  rfl

/-- The layer's result: for the expert that token `t` names, if the token's place is below 6, the product of the token with
that expert's weights; nothing otherwise. -/
def moe (x : Vec Ideal S512x256 .bf16) (W : Vec Ideal ⟨3, ![64, 256, 512]⟩ .bf16) (t : Fin 512) (h : Fin 512) : EReal :=
  ∑ e : Fin 64, ind (routeN r t = e.val ∧ place r t < 6) * ∑ d : Fin 256, (x (ix2 t d) : EReal) * (W (ix3 e d h) : EReal)

/-- A device returns its own 32 tokens' rows of the layer's result. -/
theorem outV_apply (x : Vec Ideal S512x256 .bf16) (w : Dev nD → Vec Ideal S4x256x512 .bf16)
    (W : Vec Ideal ⟨3, ![64, 256, 512]⟩ .bf16)
    (hw : ∀ (d : Dev nD) (e : Fin 4) (k : Fin 256) (h : Fin 512) (E : Fin 64), E.val = 4 * d.val + e.val →
      w d (ix3 e k h) = W (ix3 E k h)) (t : Fin 32) (h : Fin 512) :
    outV c r (gathered fun d => packV d r x (w d)) (ix2 t h) = moe r x W (own c t) h := by
  have hsum : outV c r (gathered fun d => packV d r x (w d)) (ix2 t h)
      = ∑ g : Fin 384, ind (routeN r (own c t) = g.val / 6 ∧ place r (own c t) = g.val % 6)
          * (gathered (F := Ideal) (fun d => packV d r x (w d)) (ix2 g h) : EReal) := by
    pointwise [outV, k0_pay19]
    simp only [selV_apply]
  rw [hsum]
  unfold moe
  generalize own c t = T
  by_cases hl : routeN r T < 64 ∧ place r T < 6
  · obtain ⟨hr, hp⟩ := hl
    rw [sum_pick _ (⟨6 * routeN r T + place r T, by omega⟩ : Fin 384)
      (fun g => by rw [Fin.ext_iff]; simp only; omega),
      sum_pick _ (⟨routeN r T, hr⟩ : Fin 64) (fun e => by rw [Fin.ext_iff]; simp only; omega)]
    rw [gathered_apply _ _ h (⟨routeN r T / 4, by show _ < 16; omega⟩ : Dev nD)
      (⟨6 * (routeN r T % 4) + place r T, by omega⟩ : Fin 24) (by simp only; omega) (by simp only; omega), packV_apply]
    refine Finset.sum_congr rfl fun d _ => ?_
    rw [sum_pick _ T fun u => ?_]
    · refine congrArg ((x (ix2 T d) : EReal) * ·) (hw _ _ d h _ ?_)
      simp only
      omega
    · simp only
      constructor
      · intro hu
        exact (place_inj r (t := T) (u := u) (by omega) hr (by omega)).symm
      · rintro rfl
        omega
  · rw [sum_none _ fun g hg => hl (by omega), sum_none _ fun e he => hl (by omega)]

end Cert.MoeProof
-- ==== Proof.RefValue.lean ====
/-
# The reference computes the layer's result

The reference counts, down each expert's column of the one-hot matrix, the tokens up to and including a row, and takes
the row's own mark away: that is the number of earlier tokens of the expert. It then adds over all experts the products
it selects, of which at most one is not zero.
-/
module

public import proofs.«01_k».proof.Proof.Select
public import proofs.«01_k».proof.Proof.Gen.ReferenceIdeal
public import Idealize.ShloMosaic.Lib.WordSum

@[expose] public section

set_option maxRecDepth 16384

noncomputable section

namespace Cert.MoeProof

open Cert.ReferenceIdeal Cert.ReferenceIdeal.Gen
open Idealize.ShloMosaic

/-! ## A running sum down a column -/

/-- Folding word addition over a list is adding its sum. -/
theorem foldl_words {ι : Type} (g : ι → BitVec 32) (l : List ι) (a : BitVec 32) :
    l.foldl (fun s n => IntOp.addi s (g n)) a = a + (l.map g).sum := by
  induction l generalizing a with
  | nil => simp
  | cons n l ih =>
    rw [List.foldl_cons, ih, List.map_cons, List.sum_cons]
    exact BitVec.add_assoc _ _ _

/-- A window of 512 rows that ends at row `t`, read over a column that is empty above its first row, holds rows `0` to `t`. -/
theorem sum_window (q : ℕ → BitVec 32) (t : ℕ) (ht : t < 512) :
    ∑ a : Fin 512, (if 511 ≤ t + a.val then q (t + a.val - 511) else 0) = ∑ u ∈ Finset.range (t + 1), q u := by
  rw [Fin.sum_univ_eq_sum_range (fun a => if 511 ≤ t + a then q (t + a - 511) else 0) 512,
    show 512 = (511 - t) + (t + 1) by omega, Finset.sum_range_add,
    Finset.sum_eq_zero fun a ha => if_neg (by rw [Finset.mem_range] at ha; omega), zero_add]
  refine Finset.sum_congr rfl fun u hu => ?_
  rw [if_pos (by omega)]
  exact congrArg q (by omega)

/-- The running sum of a column, at row `t`. -/
theorem running (x : IVec S512x64 32) (init : IVec S_ 32) (hinit : init (Shape.Idx.first h_S_) = 0#32)
    (t : Fin 512) (e : Fin 64) (q : ℕ → BitVec 32) (hq : ∀ u : Fin 512, x (ix2 u e) = q u.val) :
    Host.reduceWindow IntOp.addi ![512, 1] ![1, 1] ![511, 0] ![0, 0] x init
      reduceWindows_S512x64_S512x64_w512s1p511_0_w1s1p0_0 h_S_ (ix2 t e) = ∑ u ∈ Finset.range (t.val + 1), q u := by
  rw [← sum_window q t.val t.isLt]
  unfold Host.reduceWindow
  simp only [hinit]
  rw [foldl_words, ← Fin.sum_univ_def, BitVec.zero_add]
  refine (Equiv.sum_comp (Shape.rowMajor (⟨2, ![512, 1]⟩ : Shape)).symm
      (fun w => if hin : ∀ a, (![511, 0] : Fin 2 → ℕ) a ≤ ((ix2 t e : S512x64.Idx) a).val * (![1, 1] : Fin 2 → ℕ) a + (w a).val
          ∧ ((ix2 t e : S512x64.Idx) a).val * (![1, 1] : Fin 2 → ℕ) a + (w a).val - (![511, 0] : Fin 2 → ℕ) a < S512x64.size a
        then x (fun a => ⟨((ix2 t e : S512x64.Idx) a).val * (![1, 1] : Fin 2 → ℕ) a + (w a).val - (![511, 0] : Fin 2 → ℕ) a, (hin a).2⟩)
        else 0#32)).trans ((sum_idx2 _).trans ?_)
  refine Finset.sum_congr rfl fun a _ => ?_
  rw [Fin.sum_univ_one]
  by_cases h : 511 ≤ t.val + a.val
  · rw [if_pos h, dif_pos (fun b => ?_), ← hq ⟨t.val + a.val - 511, by omega⟩]
    · refine congrArg x (funext fun b => Fin.ext ?_)
      match b with
      | 0 => show t.val * 1 + a.val - 511 = t.val + a.val - 511; omega
      | 1 => show e.val * 1 + 0 - 0 = e.val; omega
    · match b with
      | 0 =>
        show 511 ≤ t.val * 1 + a.val ∧ t.val * 1 + a.val - 511 < 512
        omega
      | 1 =>
        show 0 ≤ e.val * 1 + 0 ∧ e.val * 1 + 0 - 0 < 64
        omega
  · rw [if_neg h, dif_neg fun hin => h ?_]
    · rfl
    · have h0 : 511 ≤ t.val * 1 + a.val := (hin 0).1
      omega

/-- A sum of widened bits over the rows before `t` is the word of the number of marked rows. -/
theorem sum_bits (p : Fin 512 → Prop) [DecidablePred p] (b : Fin 512 → BitVec 1) (hb : ∀ u, b u = 1#1 ↔ p u) (t : Fin 512)
    (q : ℕ → BitVec 32) (hq : ∀ u : Fin 512, (b u).setWidth 32 = q u.val) :
    ∑ u ∈ Finset.range t.val, q u = BitVec.ofNat 32 (Finset.univ.filter fun u => p u ∧ u < t).card := by
  have hbit : ∀ b : BitVec 1, b.setWidth 32 = if b = 1#1 then (1 : BitVec 32) else 0 := by decide
  have hr : ∑ u ∈ Finset.range t.val, q u = ∑ u : Fin 512, if u < t then q u.val else 0 := by
    refine Eq.trans ?_ (Fin.sum_univ_eq_sum_range (fun u => if u < t.val then q u else 0) 512).symm
    rw [← Finset.sum_filter]
    congr 1
    ext u
    rw [Finset.mem_filter, Finset.mem_range, Finset.mem_range]
    have := t.isLt
    omega
  rw [hr, Finset.card_filter]
  refine (Finset.sum_congr rfl fun u _ => ?_).trans (Nat.cast_sum (R := BitVec 32) _ _).symm
  rw [← hq, hbit]
  by_cases h1 : u < t <;> by_cases h2 : p u <;> simp [h1, h2, hb]

/-! ## The reference's result -/

variable (r : Vec Ideal S512x1 .i32) (x : Vec Ideal S512x256 .bf16) (W : Vec Ideal S64x256x512 .bf16)

/-- The one-hot matrix of the tokens' experts, as bits. -/
def refHot : IVec S512x64 1 :=
  cmpi .eq (broadcastInDim S512x64 ![0, 1] bcast_S512x1_S512x64_0_1 r) (broadcastInDim S512x64 ![0, 1] bcast_S1x64_S512x64_0_1
    (broadcastInDim S1x64 ![1] bcast_S64_S1x64_1 (iotaInDim S64 32 0)))

/-- The number of earlier tokens of each expert, at every row. -/
def refBefore : IVec S512x64 32 :=
  subi (Host.reduceWindow IntOp.addi ![512, 1] ![1, 1] ![511, 0] ![0, 0] (extui 32 (refHot r) natLt_1_32)
      (broadcastInDim S_ ![] bcast_S_S_ (constantI S_ 32 0#32)) reduceWindows_S512x64_S512x64_w512s1p511_0_w1s1p0_0 h_S_)
    (extui 32 (refHot r) natLt_1_32)

/-- What the reference returns, as a function of its arguments. -/
def refOut : FVec Ideal S512x512 .f32 :=
  Host.reduceAdd (select (broadcastInDim S512x64x512 ![0, 1, 2] bcast_S512x64x1_S512x64x512_0_1_2
      (broadcastInDim S512x64x1 ![0, 1] bcast_S512x64_S512x64x1_0_1
        (andi (refHot r) (cmpi .slt (refBefore r) (broadcastInDim S512x64 ![] bcast_S_S512x64 (constantI S_ 32 6#32))))))
      (Host.dotGeneral dot_S512x256_S64x256x512_S512x64x512_1_1_0_02_n_n none (extf .f32 (x : FVec Ideal S512x256 .bf16) bitsLt_bf16_f32)
        (extf .f32 (W : FVec Ideal S64x256x512 .bf16) bitsLt_bf16_f32))
      (broadcastInDim S512x64x512 ![] bcast_S_S512x64x512 (id (constant S_ .f32 0x00000000#32))))
    (constant S_ .f32 0x00000000#32) reducesTo_S512x64x512_S512x512_d1 h_S_

theorem refHot_apply (t : Fin 512) (e : Fin 64) : refHot r (ix2 t e) = 1#1 ↔ routeN r t = e.val := by
  unfold refHot
  pointwise
  rw [cmpi_eq_one]
  exact eq_ofNat_iff _ (by omega)

theorem refBefore_apply (t : Fin 512) (e : Fin 64) (ht : routeN r t = e.val) :
    refBefore r (ix2 t e) = BitVec.ofNat 32 (place r t) := by
  let q : ℕ → BitVec 32 := fun u => if h : u < 512 then (refHot r (ix2 ⟨u, h⟩ e)).setWidth 32 else 0
  have hq : ∀ u : Fin 512, (refHot r (ix2 u e)).setWidth 32 = q u.val := fun u => by
    simp only [q, u.isLt, dif_pos]
  have hs := sum_bits (fun u => routeN r u = e.val) (fun u => refHot r (ix2 u e)) (fun u => refHot_apply r u e) t q hq
  refine (congrArg₂ IntOp.subi (running _ _ rfl t e q hq) (hq t)).trans ?_
  rw [Finset.sum_range_succ, hs]
  refine (add_sub_cancel_right _ _).trans (congrArg (BitVec.ofNat 32) ?_)
  unfold place earlier
  refine congrArg Finset.card (Finset.filter_congr fun u _ => ?_)
  refine and_congr_left fun _ => ⟨fun h => ⟨ht.trans h.symm, ?_⟩, fun h => h.1.symm.trans ht⟩
  rw [ht]; exact e.isLt

/-- A value kept where a bit is set. -/
theorem select_bit (b : BitVec 1) (v : EReal) : Scalar.select b v 0 = ind (b = 1#1) * v := by
  have hb : ∀ b : BitVec 1, b = 0#1 ∨ b = 1#1 := by decide
  rw [ind_mul]
  rcases hb b with rfl | rfl <;> rfl

/-- The reference returns the layer's result. -/
theorem refOut_apply (t h : Fin 512) : refOut r x W (ix2 t h) = moe r x W t h := by
  have hz : (id (constant (F := Ideal) S_ .f32 0x00000000#32) ix0 : EReal) = 0 := Ideal.ofBits_zero_f32
  pointwise [refOut]
  rw [hz]
  refine Finset.sum_congr rfl fun e _ => ?_
  rw [select_bit]
  refine congrArg (· * _) (ind_congr ?_)
  rw [andi_one, refHot_apply, cmpi_slt_one]
  refine and_congr_right fun ht => ?_
  have hp := place_lt r t
  rw [refBefore_apply r t e ht, show (6#32 : BitVec 32) = BitVec.ofNat 32 6 from rfl, toInt_small (by omega),
    toInt_small (by omega)]
  exact Nat.cast_lt

end Cert.MoeProof
-- ==== Proof.Same.lean ====
/-
# The program and its reading with exact numbers are one text

The two programs are the same text at different float values, so what is proved of one for every kind of float value
holds of the other.
-/
module

public import proofs.«01_k».proof.Proof.Gen.Kernel
public import proofs.«01_k».proof.Proof.Gen.KernelIdeal

@[expose] public section

set_option maxRecDepth 16384

noncomputable section

namespace Cert.MoeProof

open Idealize.ShloMosaic Idealize.SL.Sem

variable {F : FTy → Type} [FloatOps F]

/-- The two programs start with the same text. -/
theorem main_same : Cert.Kernel.main (F := F) = Cert.KernelIdeal.main (F := F) := rfl

/-- Their calls have the same set-up. -/
theorem pcfgs_same : Cert.Kernel.pcfgs (F := F) = Cert.KernelIdeal.pcfgs (F := F) := rfl

/-- Their bodies are the same. -/
theorem defs₀_same : Cert.Kernel.defs₀ (F := F) = Cert.KernelIdeal.defs₀ (F := F) :=
  congrArg Defs.onTc (funext fun l => match l with
    | 0 => funext fun _ => rfl)

/-- Their calls are the same. -/
theorem defs_same : Cert.Kernel.defs (F := F) = Cert.KernelIdeal.defs (F := F) :=
  congrArg (Pipeline.defs (Cert.KernelIdeal.pcfgs (F := F))) defs₀_same

end Cert.MoeProof
-- ==== Proof.Claims.lean ====
/-
# The claims

The kernel's run ends with every counter at zero and its arguments as they were, for any float values; so does the
reference's. With exact arithmetic, device `c`'s result is rows `32 c` to `32 c + 31` of what the reference returns.
-/
module

public import proofs.«01_k».proof.Defs
public import proofs.«01_k».proof.Proof.Launch
public import proofs.«01_k».proof.Proof.RefValue
public import proofs.«01_k».proof.Proof.Same
public import proofs.«01_k».proof.Proof.Gen.ReferenceIdeal.Run
public import Idealize.ShloMosaic.Lib.Layout
public import Idealize.ShloMosaic.Lib.LayoutAt

@[expose] public section

set_option maxRecDepth 16384

noncomputable section

namespace Cert.MoeProof

open Cert.KernelIdeal Cert.KernelIdeal.Gen
open Idealize.ShloMosaic Idealize.SL.Sem

/-! ## The frames -/

theorem frame_kernel : Cert.quiescent_Kernel := by
  intro m ρ _
  rw [defs_same, main_same]
  exact (θ_run (Cert.KernelIdeal.defs (F := Bits)) (onTc (τ := τ) (main (F := Bits))) (start₀ m ρ)).mono
    (fun _ h => ⟨fun c => (h.1 c).2, h.2⟩) (run_main (F := Bits) m ρ)

theorem frame_ideal : Cert.quiescent_KernelIdeal := fun m ρ _ =>
  (θ_run Cert.KernelIdeal.defs _ _).mono (fun _ h => ⟨fun c => (h.1 c).2, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-! ## The result -/

/-- Device `d`'s weights are the four experts from `4 d` on. -/
theorem block_weights (W : Vec Ideal ⟨3, ![64, 256, 512]⟩ .bf16) (d : Fin 16) (e : Fin 4) (k : Fin 256) (h : Fin 512)
    (E : Fin 64) (hE : E.val = 4 * d.val + e.val) :
    Layout.block ⟨3, ![4, 256, 512]⟩ ⟨3, ![64, 256, 512]⟩ 0 16 d W (by decide) (ix3 e k h) = W (ix3 E k h) := by
  rw [Layout.block_apply]
  refine congrArg W (funext fun b => Fin.ext ?_)
  rw [Layout.Tiles.idx_val]
  match b with
  | 0 => show d.val * 4 + e.val = E.val; omega
  | 1 => rfl
  | 2 => rfl

/-- Device `c`'s rows of a whole result. -/
theorem block_rows (v : Vec Ideal ⟨2, ![512, 512]⟩ .f32) (c : Fin 16) (t : Fin 32) (h : Fin 512) :
    Layout.block ⟨2, ![32, 512]⟩ ⟨2, ![512, 512]⟩ 0 16 c v (by decide) (ix2 t h) = v (ix2 (own c t) h) := by
  rw [Layout.block_apply]
  refine congrArg v (funext fun b => Fin.ext ?_)
  rw [Layout.Tiles.idx_val]
  match b with
  | 0 => show c.val * 32 + t.val = 32 * c.val + t.val; omega
  | 1 => rfl

/-- If every device holds the same tokens and routing, and its own four experts' weights, its result is its block of the
reference's. -/
theorem out_block (m : (ℓ : Loc nD τ sig) → Buf (Elt Ideal) ℓ) (x : Vec Ideal S512x256 .bf16) (r : Vec Ideal S512x1 .i32)
    (W : Vec Ideal ⟨3, ![64, 256, 512]⟩ .bf16) (hx : ∀ d, xA m d = x) (hr : ∀ d, rA m d = r)
    (hw : ∀ d : Dev nD, wA m d = Layout.block ⟨3, ![4, 256, 512]⟩ ⟨3, ![64, 256, 512]⟩ 0 16 d W (by decide)) (c : Dev nD) :
    outA m c = Layout.block ⟨2, ![32, 512]⟩ ⟨2, ![512, 512]⟩ 0 16 c (refOut r x W) (by decide) := by
  have hp : pkA m = fun d => packV d r x (wA m d) := funext fun d => by
    unfold pkA
    rw [hx, hr]
  unfold outA
  rw [hp, hr]
  funext i
  obtain ⟨t, h, rfl⟩ : ∃ (t : Fin 32) (h : Fin 512), i = ix2 t h := ⟨i 0, i 1, (ix2_eta i).symm⟩
  rw [outV_apply c r x (wA m) W (fun d e k h E hE => by rw [hw]; exact block_weights W d e k h E hE), block_rows, refOut_apply]

theorem algebraic : Cert.algebraic_KernelIdeal_ReferenceIdeal := by
  intro m ρ m' ρ' _ hagree
  refine ⟨_, (θ_run Cert.KernelIdeal.defs _ _).mono (fun r h c => ⟨(h.1 c).1.trans ?_, (h.1 c).2⟩) (run_main (F := Ideal) m ρ),
    (θ_run Cert.ReferenceIdeal.defs _ _).mono (fun r h => h 0) (Cert.ReferenceIdeal.Value.run m' ρ')⟩
  exact out_block m _ _ _ (fun d => (hagree d).1) (fun d => (hagree d).2.2.1) (fun d => (hagree d).2.2.2) c

end Cert.MoeProof
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The frames of the kernel, of its reading with exact numbers and of the reference; nothing was rewritten, so the two
readings of the kernel agree; and each device's result is its block of the reference's. -/
theorem claim : Cert.Claim := ⟨Cert.Kernel.Gen.facts, Cert.KernelIdeal.Gen.facts, Cert.ReferenceIdeal.Gen.facts,
  Cert.MoeProof.frame_kernel, Cert.MoeProof.frame_ideal, Cert.MoeProof.frame_reference, trivial,
  Cert.MoeProof.algebraic⟩

end Cert.Proof

end
